-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_positions [hPre_positions : Cert.Pre_positions.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_positions.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_positions [hPre_positions : Cert.Pre_positions.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_positions.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_positions [hKernel2Ideal : Cert.Kernel2Ideal.Facts] [hPre_positions : Cert.Pre_positions.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_positions m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_positions [hReference2Ideal : Cert.Reference2Ideal.Facts] [hPre_positions : Cert.Pre_positions.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_positions m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal_pre_positions [hKernel2Ideal : Cert.Kernel2Ideal.Facts] [hReference2Ideal : Cert.Reference2Ideal.Facts] [hPre_positions : Cert.Pre_positions.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_positions m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v28)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v28) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v85) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_positions : Cert.Pre_positions.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_positions (hKernel2Ideal := hKernel2Ideal) (hPre_positions := hPre_positions)
    ∧ quiescent_Reference2Ideal (hReference2Ideal := hReference2Ideal)
    ∧ quiescent_Reference2Ideal_pre_positions (hReference2Ideal := hReference2Ideal) (hPre_positions := hPre_positions)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_positions (hKernel2Ideal := hKernel2Ideal) (hReference2Ideal := hReference2Ideal) (hPre_positions := hPre_positions)
    ∧ preserves_Kernel3_Kernel3Ideal
    ∧ algebraic_Kernel3Ideal_Reference3Ideal (hKernel3Ideal := hKernel3Ideal) (hReference3Ideal := hReference3Ideal)
-- ==== Pre_finite.lean ====
abbrev S2048x6144 : Shape := ⟨2, ![2048, 6144]⟩
abbrev S_ : Shape := ⟨0, ![]⟩

class Facts : Prop where
  bcast_S_S2048x6144 : S_.BroadcastsInDim S2048x6144 (![] : Fin 0 → Fin S2048x6144.rank)
  reducesTo_S2048x6144_S_d0_1 : S2048x6144.ReducesTo [0, 1] S_
  h_S_ : 0 < S_.numel

variable [Facts]

def fn {F : FTy → Type} [FloatOps F] (main_arg0 : FVec F S2048x6144 .f32) : IVec S_ 1 :=
  let main_v0 : FVec F S2048x6144 .f32 := Host.absf main_arg0
  let main_cst : FVec F S_ .f32 := constant S_ .f32 0x7F800000#32
  let main_v1 : FVec F S2048x6144 .f32 := broadcastInDim S2048x6144 ![] bcast_S_S2048x6144 main_cst
  let main_v2 : IVec S2048x6144 1 := cmpf .olt main_v0 main_v1
  let main_c : IVec S_ 1 := constantI S_ 1 1#1
  let main_v3 : IVec S_ 1 := (fun x v => Host.reduce IntOp.andi x v reducesTo_S2048x6144_S_d0_1 h_S_) main_v2 main_c
  main_v3
-- ==== Pre_positions.lean ====
abbrev S1x2048x2048 : Shape := ⟨3, ![1, 2048, 2048]⟩
abbrev S1x2048 : Shape := ⟨2, ![1, 2048]⟩
abbrev S2048x2048 : Shape := ⟨2, ![2048, 2048]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel

variable [Facts]

def fn {F : FTy → Type} [FloatOps F] (main_arg0 : FVec F S1x2048x2048 .f32) (main_arg1 : IVec S1x2048 32) (main_arg2 : FVec F S2048x2048 .f32) (main_arg3 : FVec F S2048x2048 .f32) (main_arg4 : FVec F S2048x2048 .f32) : IVec S_ 1 :=
  let main_c : IVec S_ 32 := constantI S_ 32 0#32
  let main_v0 : IVec S1x2048 32 := broadcastInDim S1x2048 ![] bcast_S_S1x2048 main_c
  let main_v1 : IVec S1x2048 1 := cmpi .sge main_arg1 main_v0
  let main_c_0 : IVec S_ 32 := constantI S_ 32 2048#32
  let main_v2 : IVec S1x2048 32 := broadcastInDim S1x2048 ![] bcast_S_S1x2048 main_c_0
  let main_v3 : IVec S1x2048 1 := cmpi .slt main_arg1 main_v2
  let main_v4 : IVec S1x2048 1 := andi main_v1 main_v3
  let main_c_1 : IVec S_ 1 := constantI S_ 1 1#1
  let main_v5 : IVec S_ 1 := (fun x v => Host.reduce IntOp.andi x v reducesTo_S1x2048_S_d0_1 h_S_) main_v4 main_c_1
  main_v5
-- ==== Kernel.lean ====
abbrev S2048x6144 : Shape := ⟨2, ![2048, 6144]⟩
abbrev S2048x2048 : Shape := ⟨2, ![2048, 2048]⟩
abbrev S256x128 : Shape := ⟨2, ![256, 128]⟩
abbrev S2048x128 : Shape := ⟨2, ![2048, 128]⟩
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩
abbrev S1x1x2048 : Shape := ⟨3, ![1, 1, 2048]⟩
abbrev S1 : Shape := ⟨1, ![1]⟩
abbrev S1x1x1 : Shape := ⟨3, ![1, 1, 1]⟩

abbrev nBuf : Space → Nat
  | .hbm => 2
  | .vmem => 11
  | .smem => 0
  | _ => 0

abbrev bufTy : (tb : Table) → Fin (tcTables nBuf tb) → BufTy
  | .hbm, ⟨0, _⟩ => ⟨S2048x6144, .f32⟩
  | .hbm, ⟨1, _⟩ => ⟨S2048x2048, .f32⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x128, .f32⟩
  | .local _ .vmem, ⟨7, _⟩ => ⟨S256x128, .f32⟩
  | .local _ .vmem, ⟨8, _⟩ => ⟨S256x2048, .f32⟩
  | .local _ .vmem, ⟨9, _⟩ => ⟨S256x2048, .f32⟩
  | .local _ .vmem, ⟨10, _⟩ => ⟨S1x2048, .f32⟩
  | _, _ => ⟨S2048x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

@[reducible] def k0_t1_loop (i : grid0.Coords) : Scf.Loop 32 :=
  let c204_i32_14 : BitVec 32 := 204#32
  let arg1 : BitVec 32 := BitVec.ofNat 32 (i 1).val
  let c256_i32_13 : BitVec 32 := 256#32
  let v30 : BitVec 32 := Scalar.muli arg1 c256_i32_13
  let v31 : BitVec 32 := Scalar.subi c204_i32_14 v30
  let c0_i32_15 : BitVec 32 := 0#32
  let v32 : BitVec 32 := Scalar.maxsi v31 c0_i32_15
  let c256_i32_17 : BitVec 32 := 256#32
  let v33 : BitVec 32 := Scalar.subi c256_i32_17 v32
  let c1_i32 : BitVec 32 := 1#32
  let v35 : BitVec 32 := Scalar.divsi v33 c1_i32
  let v36 : BitVec 32 := Scalar.muli v35 c1_i32
  let v37 : BitVec 32 := Scalar.addi v32 v36
  let c1_i32_18 : BitVec 32 := 1#32
  ⟨v32, v37, c1_i32_18⟩
def k0_off1 (i : grid0.Coords) (k0_t1 : Fin (k0_t1_loop i).trips) : Fin 2 → Nat :=
  let c204_i32_14 : BitVec 32 := 204#32
  let arg1 : BitVec 32 := BitVec.ofNat 32 (i 1).val
  let c256_i32_13 : BitVec 32 := 256#32
  let v30 : BitVec 32 := Scalar.muli arg1 c256_i32_13
  let v31 : BitVec 32 := Scalar.subi c204_i32_14 v30
  let c0_i32_15 : BitVec 32 := 0#32
  let v32 : BitVec 32 := Scalar.maxsi v31 c0_i32_15
  let c1_i32_18 : BitVec 32 := 1#32
  let arg9 : BitVec 32 := Scf.iv v32 c1_i32_18 k0_t1
  let v53 : Index := Scalar.indexCast arg9
  let c0_30 : Index := 0#32
  ![v53.toNat, 0]
@[reducible] def k0_t2_loop (i : grid0.Coords) : Scf.Loop 32 :=
  let c204_i32_14 : BitVec 32 := 204#32
  let arg1 : BitVec 32 := BitVec.ofNat 32 (i 1).val
  let c256_i32_13 : BitVec 32 := 256#32
  let v30 : BitVec 32 := Scalar.muli arg1 c256_i32_13
  let v31 : BitVec 32 := Scalar.subi c204_i32_14 v30
  let c0_i32_15 : BitVec 32 := 0#32
  let v32 : BitVec 32 := Scalar.maxsi v31 c0_i32_15
  let c256_i32_17 : BitVec 32 := 256#32
  let v33 : BitVec 32 := Scalar.subi c256_i32_17 v32
  let c1_i32 : BitVec 32 := 1#32
  let v35 : BitVec 32 := Scalar.divsi v33 c1_i32
  let v36 : BitVec 32 := Scalar.muli v35 c1_i32
  let v37 : BitVec 32 := Scalar.addi v32 v36
  let v34 : BitVec 32 := Scalar.addi v32 v33
  let c1_i32_19 : BitVec 32 := 1#32
  ⟨v37, v34, c1_i32_19⟩
def k0_off2 (i : grid0.Coords) (k0_t2 : Fin (k0_t2_loop i).trips) : Fin 2 → Nat :=
  let c204_i32_14 : BitVec 32 := 204#32
  let arg1 : BitVec 32 := BitVec.ofNat 32 (i 1).val
  let c256_i32_13 : BitVec 32 := 256#32
  let v30 : BitVec 32 := Scalar.muli arg1 c256_i32_13
  let v31 : BitVec 32 := Scalar.subi c204_i32_14 v30
  let c0_i32_15 : BitVec 32 := 0#32
  let v32 : BitVec 32 := Scalar.maxsi v31 c0_i32_15
  let c256_i32_17 : BitVec 32 := 256#32
  let v33 : BitVec 32 := Scalar.subi c256_i32_17 v32
  let c1_i32 : BitVec 32 := 1#32
  let v35 : BitVec 32 := Scalar.divsi v33 c1_i32
  let v36 : BitVec 32 := Scalar.muli v35 c1_i32
  let v37 : BitVec 32 := Scalar.addi v32 v36
  let c1_i32_19 : BitVec 32 := 1#32
  let arg9 : BitVec 32 := Scf.iv v37 c1_i32_19 k0_t2
  let v53 : Index := Scalar.indexCast arg9
  let c0_30 : Index := 0#32
  ![v53.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S2048x6144 : Shape := ⟨2, ![2048, 6144]⟩
abbrev S2048x2048 : Shape := ⟨2, ![2048, 2048]⟩
abbrev S2048x16x128 : Shape := ⟨3, ![2048, 16, 128]⟩
abbrev S16x2048x128 : Shape := ⟨3, ![16, 2048, 128]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S16x204x2048 : Shape := ⟨3, ![16, 204, 2048]⟩
abbrev S2048 : Shape := ⟨1, ![2048]⟩
abbrev S1x2048 : Shape := ⟨2, ![1, 2048]⟩
abbrev S1x1x2048 : Shape := ⟨3, ![1, 1, 2048]⟩
abbrev S16x1x2048 : Shape := ⟨3, ![16, 1, 2048]⟩
abbrev S16x203 : Shape := ⟨2, ![16, 203]⟩
abbrev S16x203x1 : Shape := ⟨3, ![16, 203, 1]⟩
abbrev S16x203x2048 : Shape := ⟨3, ![16, 203, 2048]⟩

abbrev nBuf : Space → Nat
  | .hbm => 149
  | .vmem => 0
  | .smem => 0
  | _ => 0

abbrev hbmTy0_0 (i : Nat) : BufTy := match i % 128 with
  | 0 => ⟨S2048x6144, .f32⟩
  | 1 => ⟨S2048x2048, .f32⟩
  | 2 => ⟨S2048x16x128, .f32⟩
  | 3 => ⟨S16x2048x128, .f32⟩
  | 4 => ⟨S2048x2048, .f32⟩
  | 5 => ⟨S2048x16x128, .f32⟩
  | 6 => ⟨S16x2048x128, .f32⟩
  | 7 => ⟨S2048x2048, .f32⟩
  | 8 => ⟨S2048x16x128, .f32⟩
  | 9 => ⟨S16x2048x128, .f32⟩
  | 10 => ⟨S16x2048x2048, .f32⟩
  | 11 => ⟨S_, .f32⟩
  | 12 => ⟨S_, .f32⟩
  | 13 => ⟨S16x2048x2048, .f32⟩
  | 14 => ⟨S16x2048x2048, .f32⟩
  | 15 => ⟨S_, .f32⟩
  | 16 => ⟨S16x2048x2048, .f32⟩
  | 17 => ⟨S16x2048x2048, .f32⟩
  | 18 => ⟨S_, .f32⟩
  | 19 => ⟨S16x2048, .f32⟩
  | 20 => ⟨S_, .f32⟩
  | 21 => ⟨S16x2048, .f32⟩
  | 22 => ⟨S16x2048, .f32⟩
  | 23 => ⟨S16x2048x1, .f32⟩
  | 24 => ⟨S16x2048x2048, .f32⟩
  | 25 => ⟨S16x2048x2048, .f32⟩
  | 26 => ⟨S16x2048x2048, .f32⟩
  | 27 => ⟨S_, .f32⟩
  | 28 => ⟨S16x2048, .f32⟩
  | 29 => ⟨S16x2048x1, .f32⟩
  | 30 => ⟨S16x2048x2048, .f32⟩
  | 31 => ⟨S16x2048x2048, .f32⟩
  | 32 => ⟨S16x204x2048, .f32⟩
  | 33 => ⟨S_, .f32⟩
  | 34 => ⟨S16x2048, .f32⟩
  | 35 => ⟨S2048, .i32⟩
  | 36 => ⟨S1x2048, .i32⟩
  | 37 => ⟨S_, .i32⟩
  | 38 => ⟨S1x2048, .i32⟩
  | 39 => ⟨S1x2048, .i1⟩
  | 40 => ⟨S_, .f32⟩
  | 41 => ⟨S_, .f32⟩
  | 42 => ⟨S16x2048, .i1⟩
  | 43 => ⟨S16x2048, .f32⟩
  | 44 => ⟨S16x2048, .f32⟩
  | 45 => ⟨S2048, .i32⟩
  | 46 => ⟨S1x1x2048, .i32⟩
  | 47 => ⟨S_, .i32⟩
  | 48 => ⟨S1x1x2048, .i32⟩
  | 49 => ⟨S1x1x2048, .i1⟩
  | 50 => ⟨S16x2048x2048, .i1⟩
  | 51 => ⟨S_, .i32⟩
  | 52 => ⟨S_, .i32⟩
  | 53 => ⟨S16x2048x2048, .f32⟩
  | 54 => ⟨S_, .i32⟩
  | 55 => ⟨S_, .i32⟩
  | 56 => ⟨S16x2048, .f32⟩
  | 57 => ⟨S16x2048x2048, .i1⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S_, .i32⟩
  | 70 => ⟨S_, .i32⟩
  | 71 => ⟨S_, .i32⟩
  | 72 => ⟨S16x1x2048, .f32⟩
  | 73 => ⟨S16x2048, .f32⟩
  | 74 => ⟨S16x203, .f32⟩
  | 75 => ⟨S16x203, .i32⟩
  | 76 => ⟨S16x203x1, .i32⟩
  | 77 => ⟨S1x1x2048, .i32⟩
  | 78 => ⟨S16x203x2048, .i32⟩
  | 79 => ⟨S16x203x2048, .i32⟩
  | 80 => ⟨S16x203x2048, .i1⟩
  | 81 => ⟨S_, .i1⟩
  | 82 => ⟨S16x2048, .i1⟩
  | 83 => ⟨S2048, .i32⟩
  | 84 => ⟨S1x2048, .i32⟩
  | 85 => ⟨S_, .i32⟩
  | 86 => ⟨S1x2048, .i32⟩
  | 87 => ⟨S1x2048, .i1⟩
  | 88 => ⟨S16x2048, .i1⟩
  | 89 => ⟨S16x2048, .i1⟩
  | 90 => ⟨S16x2048, .f32⟩
  | 91 => ⟨S16x2048, .f32⟩
  | 92 => ⟨S16x2048, .f32⟩
  | 93 => ⟨S16x1x2048, .i1⟩
  | 94 => ⟨S_, .i32⟩
  | 95 => ⟨S_, .i1⟩
  | 96 => ⟨S_, .i32⟩
  | 97 => ⟨S_, .i32⟩
  | 98 => ⟨S_, .i32⟩
  | 99 => ⟨S_, .i32⟩
  | 100 => ⟨S_, .i32⟩
  | 101 => ⟨S_, .i32⟩
  | 102 => ⟨S16x2048x2048, .i1⟩
  | 103 => ⟨S_, .i32⟩
  | 104 => ⟨S_, .i32⟩
  | 105 => ⟨S_, .i1⟩
  | 106 => ⟨S16x2048x2048, .i1⟩
  | 107 => ⟨S2048x2048, .i32⟩
  | 108 => ⟨S_, .i32⟩
  | 109 => ⟨S2048x2048, .i32⟩
  | 110 => ⟨S2048x2048, .i32⟩
  | 111 => ⟨S2048x2048, .i32⟩
  | 112 => ⟨S2048x2048, .i1⟩
  | 113 => ⟨S16x2048x2048, .i1⟩
  | 114 => ⟨S_, .i1⟩
  | 115 => ⟨S16x2048x2048, .i1⟩
  | 116 => ⟨S16x2048x2048, .i1⟩
  | 117 => ⟨S16x2048x2048, .i1⟩
  | 118 => ⟨S2048x2048, .i32⟩
  | 119 => ⟨S_, .i32⟩
  | 120 => ⟨S2048x2048, .i32⟩
  | 121 => ⟨S2048x2048, .i32⟩
  | 122 => ⟨S2048x2048, .i32⟩
  | 123 => ⟨S2048x2048, .i1⟩
  | 124 => ⟨S16x2048x2048, .i1⟩
  | 125 => ⟨S_, .i1⟩
  | 126 => ⟨S16x2048x2048, .i1⟩
  | 127 => ⟨S16x2048x2048, .i1⟩
  | _ => ⟨S2048x6144, .f32⟩

abbrev hbmTy0_1 (i : Nat) : BufTy := match i % 128 with
  | 0 => ⟨S_, .f32⟩
  | 1 => ⟨S_, .f32⟩
  | 2 => ⟨S16x2048x2048, .f32⟩
  | 3 => ⟨S16x2048x2048, .f32⟩
  | 4 => ⟨S_, .f32⟩
  | 5 => ⟨S16x2048, .f32⟩
  | 6 => ⟨S_, .f32⟩
  | 7 => ⟨S16x2048, .f32⟩
  | 8 => ⟨S16x2048, .f32⟩
  | 9 => ⟨S16x2048x1, .f32⟩
  | 10 => ⟨S16x2048x2048, .f32⟩
  | 11 => ⟨S16x2048x2048, .f32⟩
  | 12 => ⟨S16x2048x2048, .f32⟩
  | 13 => ⟨S_, .f32⟩
  | 14 => ⟨S16x2048, .f32⟩
  | 15 => ⟨S16x2048x1, .f32⟩
  | 16 => ⟨S16x2048x2048, .f32⟩
  | 17 => ⟨S16x2048x2048, .f32⟩
  | 18 => ⟨S16x2048x128, .f32⟩
  | 19 => ⟨S2048x16x128, .f32⟩
  | 20 => ⟨S2048x2048, .f32⟩
  | _ => ⟨S2048x6144, .f32⟩

abbrev hbmTy (i : Nat) : BufTy := match i / 128 with
  | 0 => hbmTy0_0 i
  | 1 => hbmTy0_1 i
  | _ => ⟨S2048x6144, .f32⟩

abbrev bufTy : (tb : Table) → Fin (tcTables nBuf tb) → BufTy
  | .hbm, ⟨i, _⟩ => hbmTy i
  | _, _ => ⟨S2048x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_3 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_4 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_c_8 : Ref sig .tc := ⟨.hbm, 52, rfl⟩
abbrev main_v38_0 : Ref sig .tc := ⟨.hbm, 53, rfl⟩
abbrev main_v38_1 : Ref sig .tc := ⟨.hbm, 54, rfl⟩
abbrev main_v38_2 : Ref sig .tc := ⟨.hbm, 55, rfl⟩
abbrev main_v38_3 : Ref sig .tc := ⟨.hbm, 56, rfl⟩
abbrev main_v38_4 : Ref sig .tc := ⟨.hbm, 57, rfl⟩
abbrev main_while0c_c_18 : Ref sig .tc := ⟨.hbm, 58, rfl⟩
abbrev main_while0c_v58 : Ref sig .tc := ⟨.hbm, 59, rfl⟩
abbrev main_while0b_c_18 : Ref sig .tc := ⟨.hbm, 60, rfl⟩
abbrev main_while0b_v58 : Ref sig .tc := ⟨.hbm, 61, rfl⟩
abbrev main_while0b_c_19 : Ref sig .tc := ⟨.hbm, 62, rfl⟩
abbrev main_while0b_v59 : Ref sig .tc := ⟨.hbm, 63, rfl⟩
abbrev main_while0b_call1_c : Ref sig .tc := ⟨.hbm, 64, rfl⟩
abbrev main_while0b_call1_v0 : Ref sig .tc := ⟨.hbm, 65, rfl⟩
abbrev main_while0b_call1_v1 : Ref sig .tc := ⟨.hbm, 66, rfl⟩
abbrev main_while0b_call1_c_0 : Ref sig .tc := ⟨.hbm, 67, rfl⟩
abbrev main_while0b_call1_v2 : Ref sig .tc := ⟨.hbm, 68, rfl⟩
abbrev main_while0b_call1_v3 : Ref sig .tc := ⟨.hbm, 69, rfl⟩
abbrev main_while0b_call1_c_1 : Ref sig .tc := ⟨.hbm, 70, rfl⟩
abbrev main_while0b_call1_c_2 : Ref sig .tc := ⟨.hbm, 71, rfl⟩
abbrev main_while0b_call1_v4 : Ref sig .tc := ⟨.hbm, 72, rfl⟩
abbrev main_while0b_v60 : Ref sig .tc := ⟨.hbm, 73, rfl⟩
abbrev main_while0b_values : Ref sig .tc := ⟨.hbm, 74, rfl⟩
abbrev main_while0b_indices : Ref sig .tc := ⟨.hbm, 75, rfl⟩
abbrev main_while0b_call2_v0 : Ref sig .tc := ⟨.hbm, 76, rfl⟩
abbrev main_while0b_call2_v1 : Ref sig .tc := ⟨.hbm, 77, rfl⟩
abbrev main_while0b_call2_v2 : Ref sig .tc := ⟨.hbm, 78, rfl⟩
abbrev main_while0b_call2_v3 : Ref sig .tc := ⟨.hbm, 79, rfl⟩
abbrev main_while0b_v61 : Ref sig .tc := ⟨.hbm, 80, rfl⟩
abbrev main_while0b_c_20 : Ref sig .tc := ⟨.hbm, 81, rfl⟩
abbrev main_while0b_v62 : Ref sig .tc := ⟨.hbm, 82, rfl⟩
abbrev main_while0b_v63 : Ref sig .tc := ⟨.hbm, 83, rfl⟩
abbrev main_while0b_v64 : Ref sig .tc := ⟨.hbm, 84, rfl⟩
abbrev main_while0b_v65 : Ref sig .tc := ⟨.hbm, 85, rfl⟩
abbrev main_while0b_v66 : Ref sig .tc := ⟨.hbm, 86, rfl⟩
abbrev main_while0b_v67 : Ref sig .tc := ⟨.hbm, 87, rfl⟩
abbrev main_while0b_v68 : Ref sig .tc := ⟨.hbm, 88, rfl⟩
abbrev main_while0b_v69 : Ref sig .tc := ⟨.hbm, 89, rfl⟩
abbrev main_while0b_v70 : Ref sig .tc := ⟨.hbm, 90, rfl⟩
abbrev main_while0b_v71 : Ref sig .tc := ⟨.hbm, 91, rfl⟩
abbrev main_while0b_v72 : Ref sig .tc := ⟨.hbm, 92, rfl⟩
abbrev main_while0b_call3_v0 : Ref sig .tc := ⟨.hbm, 93, rfl⟩
abbrev main_while0b_call3_c : Ref sig .tc := ⟨.hbm, 94, rfl⟩
abbrev main_while0b_call3_v1 : Ref sig .tc := ⟨.hbm, 95, rfl⟩
abbrev main_while0b_call3_v2 : Ref sig .tc := ⟨.hbm, 96, rfl⟩
abbrev main_while0b_call3_c_0 : Ref sig .tc := ⟨.hbm, 97, rfl⟩
abbrev main_while0b_call3_v3 : Ref sig .tc := ⟨.hbm, 98, rfl⟩
abbrev main_while0b_call3_v4 : Ref sig .tc := ⟨.hbm, 99, rfl⟩
abbrev main_while0b_call3_c_1 : Ref sig .tc := ⟨.hbm, 100, rfl⟩
abbrev main_while0b_call3_c_2 : Ref sig .tc := ⟨.hbm, 101, rfl⟩
abbrev main_while0b_v73 : Ref sig .tc := ⟨.hbm, 102, rfl⟩
abbrev main_while0b_c_21 : Ref sig .tc := ⟨.hbm, 103, rfl⟩
abbrev main_while0b_v74 : Ref sig .tc := ⟨.hbm, 104, rfl⟩
abbrev main_c_9 : Ref sig .tc := ⟨.hbm, 105, rfl⟩
abbrev main_v39 : Ref sig .tc := ⟨.hbm, 106, rfl⟩
abbrev main_call4_v0 : Ref sig .tc := ⟨.hbm, 107, rfl⟩
abbrev main_call4_c : Ref sig .tc := ⟨.hbm, 108, rfl⟩
abbrev main_call4_v1 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_call4_v5 : Ref sig .tc := ⟨.hbm, 113, rfl⟩
abbrev main_call4_c_0 : Ref sig .tc := ⟨.hbm, 114, rfl⟩
abbrev main_call4_v6 : Ref sig .tc := ⟨.hbm, 115, rfl⟩
abbrev main_v40 : Ref sig .tc := ⟨.hbm, 116, rfl⟩
abbrev main_v41 : Ref sig .tc := ⟨.hbm, 117, rfl⟩
abbrev main_call5_v0 : Ref sig .tc := ⟨.hbm, 118, rfl⟩
abbrev main_call5_c : Ref sig .tc := ⟨.hbm, 119, rfl⟩
abbrev main_call5_v1 : Ref sig .tc := ⟨.hbm, 120, rfl⟩
abbrev main_call5_v2 : Ref sig .tc := ⟨.hbm, 121, rfl⟩
abbrev main_call5_v3 : Ref sig .tc := ⟨.hbm, 122, rfl⟩
abbrev main_call5_v4 : Ref sig .tc := ⟨.hbm, 123, rfl⟩
abbrev main_call5_v5 : Ref sig .tc := ⟨.hbm, 124, rfl⟩
abbrev main_call5_c_0 : Ref sig .tc := ⟨.hbm, 125, rfl⟩
abbrev main_call5_v6 : Ref sig .tc := ⟨.hbm, 126, rfl⟩
abbrev main_v42 : Ref sig .tc := ⟨.hbm, 127, rfl⟩
abbrev main_cst_10 : Ref sig .tc := ⟨.hbm, 128, rfl⟩
abbrev main_call6_v0 : Ref sig .tc := ⟨.hbm, 129, rfl⟩
abbrev main_call6_v1 : Ref sig .tc := ⟨.hbm, 130, rfl⟩
abbrev main_v43 : Ref sig .tc := ⟨.hbm, 131, rfl⟩
abbrev main_cst_11 : Ref sig .tc := ⟨.hbm, 132, rfl⟩
abbrev main_v44 : Ref sig .tc := ⟨.hbm, 133, rfl⟩
abbrev main_cst_12 : Ref sig .tc := ⟨.hbm, 134, rfl⟩
abbrev main_v45 : Ref sig .tc := ⟨.hbm, 135, rfl⟩
abbrev main_v46 : Ref sig .tc := ⟨.hbm, 136, rfl⟩
abbrev main_v47 : Ref sig .tc := ⟨.hbm, 137, rfl⟩
abbrev main_v48 : Ref sig .tc := ⟨.hbm, 138, rfl⟩
abbrev main_v49 : Ref sig .tc := ⟨.hbm, 139, rfl⟩
abbrev main_v50 : Ref sig .tc := ⟨.hbm, 140, rfl⟩
abbrev main_cst_13 : Ref sig .tc := ⟨.hbm, 141, rfl⟩
abbrev main_v51 : Ref sig .tc := ⟨.hbm, 142, rfl⟩
abbrev main_v52 : Ref sig .tc := ⟨.hbm, 143, rfl⟩
abbrev main_v53 : Ref sig .tc := ⟨.hbm, 144, rfl⟩
abbrev main_v54 : Ref sig .tc := ⟨.hbm, 145, rfl⟩
abbrev main_v55 : Ref sig .tc := ⟨.hbm, 146, rfl⟩
abbrev main_v56 : Ref sig .tc := ⟨.hbm, 147, rfl⟩
abbrev main_v57 : Ref sig .tc := ⟨.hbm, 148, rfl⟩

abbrev nD : Nat := 1
abbrev τ : Topo := Topo.v7x

variable {F : FTy → Type} [FloatOps F]

abbrev main_while0_count : Scf.Loop 32 := ⟨0#32, 1844#32, 1#32⟩
-- ==== Kernel2.lean ====
abbrev S1x2048x2048 : Shape := ⟨3, ![1, 2048, 2048]⟩
abbrev S1x2048 : Shape := ⟨2, ![1, 2048]⟩
abbrev S2048x2048 : Shape := ⟨2, ![2048, 2048]⟩
abbrev S2048x6144 : Shape := ⟨2, ![2048, 6144]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1 : Shape := ⟨1, ![1]⟩
abbrev S1x1 : Shape := ⟨2, ![1, 1]⟩
abbrev S256x2048 : Shape := ⟨2, ![256, 2048]⟩
abbrev S2048x1024 : Shape := ⟨2, ![2048, 1024]⟩
abbrev S256x128 : Shape := ⟨2, ![256, 128]⟩
abbrev S256x1024 : Shape := ⟨2, ![256, 1024]⟩
abbrev S256x8x128 : Shape := ⟨3, ![256, 8, 128]⟩
abbrev S256x8x64 : Shape := ⟨3, ![256, 8, 64]⟩
abbrev S256x1x128 : Shape := ⟨3, ![256, 1, 128]⟩

abbrev nBuf : Space → Nat
  | .hbm => 83
  | .vmem => 10
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .i32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x6144, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S_, .f32⟩
  | .hbm, ⟨24, _⟩ => ⟨S64, .f32⟩
  | .hbm, ⟨25, _⟩ => ⟨S64, .f32⟩
  | .hbm, ⟨26, _⟩ => ⟨S2048, .f32⟩
  | .hbm, ⟨27, _⟩ => ⟨S2048x1, .f32⟩
  | .hbm, ⟨28, _⟩ => ⟨S1x64, .f32⟩
  | .hbm, ⟨29, _⟩ => ⟨S2048x64, .f32⟩
  | .hbm, ⟨30, _⟩ => ⟨S2048x64, .f32⟩
  | .hbm, ⟨31, _⟩ => ⟨S2048x64, .f32⟩
  | .hbm, ⟨32, _⟩ => ⟨S2048x128, .f32⟩
  | .hbm, ⟨33, _⟩ => ⟨S2048, .i32⟩
  | .hbm, ⟨34, _⟩ => ⟨S2048x128, .f32⟩
  | .hbm, ⟨35, _⟩ => ⟨S_, .i32⟩
  | .hbm, ⟨36, _⟩ => ⟨S2048, .i32⟩
  | .hbm, ⟨37, _⟩ => ⟨S2048, .i1⟩
  | .hbm, ⟨38, _⟩ => ⟨S_, .i32⟩
  | .hbm, ⟨39, _⟩ => ⟨S2048, .i32⟩
  | .hbm, ⟨40, _⟩ => ⟨S2048, .i32⟩
  | .hbm, ⟨41, _⟩ => ⟨S2048, .i32⟩
  | .hbm, ⟨42, _⟩ => ⟨S2048x1, .i32⟩
  | .hbm, ⟨43, _⟩ => ⟨S1, .i32⟩
  | .hbm, ⟨44, _⟩ => ⟨S_, .i32⟩
  | .hbm, ⟨45, _⟩ => ⟨S2048x1, .i32⟩
  | .hbm, ⟨46, _⟩ => ⟨S2048x1, .i1⟩
  | .hbm, ⟨47, _⟩ => ⟨S1x1, .i32⟩
  | .hbm, ⟨48, _⟩ => ⟨S2048x1, .i32⟩
  | .hbm, ⟨49, _⟩ => ⟨S2048x1, .i1⟩
  | .hbm, ⟨50, _⟩ => ⟨S2048x1, .i1⟩
  | .hbm, ⟨51, _⟩ => ⟨S_, .i1⟩
  | .hbm, ⟨52, _⟩ => ⟨S2048, .i1⟩
  | .hbm, ⟨53, _⟩ => ⟨S2048x128, .f32⟩
  | .hbm, ⟨54, _⟩ => ⟨S2048x128, .i1⟩
  | .hbm, ⟨55, _⟩ => ⟨S_, .f32⟩
  | .hbm, ⟨56, _⟩ => ⟨S2048x128, .f32⟩
  | .hbm, ⟨57, _⟩ => ⟨S2048x128, .f32⟩
  | .hbm, ⟨58, _⟩ => ⟨S2048x128, .f32⟩
  | .hbm, ⟨59, _⟩ => ⟨S_, .i32⟩
  | .hbm, ⟨60, _⟩ => ⟨S2048, .i32⟩
  | .hbm, ⟨61, _⟩ => ⟨S2048, .i1⟩
  | .hbm, ⟨62, _⟩ => ⟨S_, .i32⟩
  | .hbm, ⟨63, _⟩ => ⟨S2048, .i32⟩
  | .hbm, ⟨64, _⟩ => ⟨S2048, .i32⟩
  | .hbm, ⟨65, _⟩ => ⟨S2048, .i32⟩
  | .hbm, ⟨66, _⟩ => ⟨S2048x1, .i32⟩
  | .hbm, ⟨67, _⟩ => ⟨S1, .i32⟩
  | .hbm, ⟨68, _⟩ => ⟨S_, .i32⟩
  | .hbm, ⟨69, _⟩ => ⟨S2048x1, .i32⟩
  | .hbm, ⟨70, _⟩ => ⟨S2048x1, .i1⟩
  | .hbm, ⟨71, _⟩ => ⟨S1x1, .i32⟩
  | .hbm, ⟨72, _⟩ => ⟨S2048x1, .i32⟩
  | .hbm, ⟨73, _⟩ => ⟨S2048x1, .i1⟩
  | .hbm, ⟨74, _⟩ => ⟨S2048x1, .i1⟩
  | .hbm, ⟨75, _⟩ => ⟨S_, .i1⟩
  | .hbm, ⟨76, _⟩ => ⟨S2048, .i1⟩
  | .hbm, ⟨77, _⟩ => ⟨S2048x128, .f32⟩
  | .hbm, ⟨78, _⟩ => ⟨S2048x128, .i1⟩
  | .hbm, ⟨79, _⟩ => ⟨S_, .f32⟩
  | .hbm, ⟨80, _⟩ => ⟨S2048x128, .f32⟩
  | .hbm, ⟨81, _⟩ => ⟨S2048x128, .f32⟩
  | .hbm, ⟨82, _⟩ => ⟨S2048x6144, .f32⟩
  | .local _ .vmem, ⟨0, _⟩ => ⟨S256x2048, .f32⟩
  | .local _ .vmem, ⟨1, _⟩ => ⟨S256x2048, .f32⟩
  | .local _ .vmem, ⟨2, _⟩ => ⟨S2048x1024, .f32⟩
  | .local _ .vmem, ⟨3, _⟩ => ⟨S2048x1024, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x1024, .f32⟩
  | .local _ .vmem, ⟨9, _⟩ => ⟨S256x1024, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_v5 : Ref sig .tc := ⟨.hbm, 42, rfl⟩
abbrev main_call0_c_1 : Ref sig .tc := ⟨.hbm, 43, rfl⟩
abbrev main_call0_c_2 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_v11 : Ref sig .tc := ⟨.hbm, 50, rfl⟩
abbrev main_call0_c_3 : Ref sig .tc := ⟨.hbm, 51, rfl⟩
abbrev main_call0_v12 : Ref sig .tc := ⟨.hbm, 52, rfl⟩
abbrev main_call0_v13 : Ref sig .tc := ⟨.hbm, 53, rfl⟩
abbrev main_call0_v14 : Ref sig .tc := ⟨.hbm, 54, rfl⟩
abbrev main_call0_cst : Ref sig .tc := ⟨.hbm, 55, rfl⟩
abbrev main_call0_v15 : Ref sig .tc := ⟨.hbm, 56, rfl⟩
abbrev main_v25 : Ref sig .tc := ⟨.hbm, 57, rfl⟩
abbrev main_v26 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_v14 : Ref sig .tc := ⟨.hbm, 78, rfl⟩
abbrev main_call1_cst : Ref sig .tc := ⟨.hbm, 79, rfl⟩
abbrev main_call1_v15 : Ref sig .tc := ⟨.hbm, 80, rfl⟩
abbrev main_v27 : Ref sig .tc := ⟨.hbm, 81, rfl⟩
abbrev main_v28 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S1x2048x2048 : Shape := ⟨3, ![1, 2048, 2048]⟩
abbrev S1x2048 : Shape := ⟨2, ![1, 2048]⟩
abbrev S2048x2048 : Shape := ⟨2, ![2048, 2048]⟩
abbrev S1x2048x16x128 : Shape := ⟨4, ![1, 2048, 16, 128]⟩
abbrev S1x16x2048x128 : Shape := ⟨4, ![1, 16, 2048, 128]⟩
abbrev S64 : Shape := ⟨1, ![64]⟩
abbrev S_ : Shape := ⟨0, ![]⟩
abbrev S2048 : Shape := ⟨1, ![2048]⟩
abbrev S2048x1 : Shape := ⟨2, ![2048, 1]⟩
abbrev S1x64 : Shape := ⟨2, ![1, 64]⟩
abbrev S2048x64 : Shape := ⟨2, ![2048, 64]⟩
abbrev S2048x128 : Shape := ⟨2, ![2048, 128]⟩
abbrev S1x2048x1 : Shape := ⟨3, ![1, 2048, 1]⟩
abbrev S1x2048x128 : Shape := ⟨3, ![1, 2048, 128]⟩
abbrev S1x1x2048x128 : Shape := ⟨4, ![1, 1, 2048, 128]⟩
abbrev S1x16x2048x64 : Shape := ⟨4, ![1, 16, 2048, 64]⟩
abbrev S1x2048x6144 : Shape := ⟨3, ![1, 2048, 6144]⟩
abbrev S2048x6144 : Shape := ⟨2, ![2048, 6144]⟩

abbrev nBuf : Space → Nat
  | .hbm => 104
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S1x2048, .i32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S1x2048x2048, .f32⟩
  | .hbm, ⟨7, _⟩ => ⟨S1x2048x16x128, .f32⟩
  | .hbm, ⟨8, _⟩ => ⟨S1x16x2048x128, .f32⟩
  | .hbm, ⟨9, _⟩ => ⟨S2048x2048, .f32⟩
  | .hbm, ⟨10, _⟩ => ⟨S1x2048x2048, .f32⟩
  | .hbm, ⟨11, _⟩ => ⟨S1x2048x16x128, .f32⟩
  | .hbm, ⟨12, _⟩ => ⟨S1x16x2048x128, .f32⟩
  | .hbm, ⟨13, _⟩ => ⟨S2048x2048, .f32⟩
  | .hbm, ⟨14, _⟩ => ⟨S1x2048x2048, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S_, .f32⟩
  | .hbm, ⟨26, _⟩ => ⟨S64, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S2048, .f32⟩
  | .hbm, ⟨32, _⟩ => ⟨S2048x1, .f32⟩
  | .hbm, ⟨33, _⟩ => ⟨S1x64, .f32⟩
  | .hbm, ⟨34, _⟩ => ⟨S2048x64, .f32⟩
  | .hbm, ⟨35, _⟩ => ⟨S2048x64, .f32⟩
  | .hbm, ⟨36, _⟩ => ⟨S2048x64, .f32⟩
  | .hbm, ⟨37, _⟩ => ⟨S2048x128, .f32⟩
  | .hbm, ⟨38, _⟩ => ⟨S2048x128, .f32⟩
  | .hbm, ⟨39, _⟩ => ⟨S2048x128, .f32⟩
  | .hbm, ⟨40, _⟩ => ⟨S_, .i32⟩
  | .hbm, ⟨41, _⟩ => ⟨S1x2048, .i32⟩
  | .hbm, ⟨42, _⟩ => ⟨S1x2048, .i1⟩
  | .hbm, ⟨43, _⟩ => ⟨S_, .i32⟩
  | .hbm, ⟨44, _⟩ => ⟨S1x2048, .i32⟩
  | .hbm, ⟨45, _⟩ => ⟨S1x2048, .i32⟩
  | .hbm, ⟨46, _⟩ => ⟨S1x2048, .i32⟩
  | .hbm, ⟨47, _⟩ => ⟨S1x2048x1, .i32⟩
  | .hbm, ⟨48, _⟩ => ⟨S1x2048x128, .f32⟩
  | .hbm, ⟨49, _⟩ => ⟨S1x1x2048x128, .f32⟩
  | .hbm, ⟨50, _⟩ => ⟨S_, .i32⟩
  | .hbm, ⟨51, _⟩ => ⟨S1x2048, .i32⟩
  | .hbm, ⟨52, _⟩ => ⟨S1x2048, .i1⟩
  | .hbm, ⟨53, _⟩ => ⟨S_, .i32⟩
  | .hbm, ⟨54, _⟩ => ⟨S1x2048, .i32⟩
  | .hbm, ⟨55, _⟩ => ⟨S1x2048, .i32⟩
  | .hbm, ⟨56, _⟩ => ⟨S1x2048, .i32⟩
  | .hbm, ⟨57, _⟩ => ⟨S1x2048x1, .i32⟩
  | .hbm, ⟨58, _⟩ => ⟨S1x2048x128, .f32⟩
  | .hbm, ⟨59, _⟩ => ⟨S1x1x2048x128, .f32⟩
  | .hbm, ⟨60, _⟩ => ⟨S1x16x2048x128, .f32⟩
  | .hbm, ⟨61, _⟩ => ⟨S1x16x2048x128, .f32⟩
  | .hbm, ⟨62, _⟩ => ⟨S1x16x2048x64, .f32⟩
  | .hbm, ⟨63, _⟩ => ⟨S1x16x2048x64, .f32⟩
  | .hbm, ⟨64, _⟩ => ⟨S1x16x2048x64, .f32⟩
  | .hbm, ⟨65, _⟩ => ⟨S1x16x2048x128, .f32⟩
  | .hbm, ⟨66, _⟩ => ⟨S1x16x2048x128, .f32⟩
  | .hbm, ⟨67, _⟩ => ⟨S1x16x2048x128, .f32⟩
  | .hbm, ⟨68, _⟩ => ⟨S1x16x2048x128, .f32⟩
  | .hbm, ⟨69, _⟩ => ⟨S_, .i32⟩
  | .hbm, ⟨70, _⟩ => ⟨S1x2048, .i32⟩
  | .hbm, ⟨71, _⟩ => ⟨S1x2048, .i1⟩
  | .hbm, ⟨72, _⟩ => ⟨S_, .i32⟩
  | .hbm, ⟨73, _⟩ => ⟨S1x2048, .i32⟩
  | .hbm, ⟨74, _⟩ => ⟨S1x2048, .i32⟩
  | .hbm, ⟨75, _⟩ => ⟨S1x2048, .i32⟩
  | .hbm, ⟨76, _⟩ => ⟨S1x2048x1, .i32⟩
  | .hbm, ⟨77, _⟩ => ⟨S1x2048x128, .f32⟩
  | .hbm, ⟨78, _⟩ => ⟨S1x1x2048x128, .f32⟩
  | .hbm, ⟨79, _⟩ => ⟨S_, .i32⟩
  | .hbm, ⟨80, _⟩ => ⟨S1x2048, .i32⟩
  | .hbm, ⟨81, _⟩ => ⟨S1x2048, .i1⟩
  | .hbm, ⟨82, _⟩ => ⟨S_, .i32⟩
  | .hbm, ⟨83, _⟩ => ⟨S1x2048, .i32⟩
  | .hbm, ⟨84, _⟩ => ⟨S1x2048, .i32⟩
  | .hbm, ⟨85, _⟩ => ⟨S1x2048, .i32⟩
  | .hbm, ⟨86, _⟩ => ⟨S1x2048x1, .i32⟩
  | .hbm, ⟨87, _⟩ => ⟨S1x2048x128, .f32⟩
  | .hbm, ⟨88, _⟩ => ⟨S1x1x2048x128, .f32⟩
  | .hbm, ⟨89, _⟩ => ⟨S1x16x2048x128, .f32⟩
  | .hbm, ⟨90, _⟩ => ⟨S1x16x2048x128, .f32⟩
  | .hbm, ⟨91, _⟩ => ⟨S1x16x2048x64, .f32⟩
  | .hbm, ⟨92, _⟩ => ⟨S1x16x2048x64, .f32⟩
  | .hbm, ⟨93, _⟩ => ⟨S1x16x2048x64, .f32⟩
  | .hbm, ⟨94, _⟩ => ⟨S1x16x2048x128, .f32⟩
  | .hbm, ⟨95, _⟩ => ⟨S1x16x2048x128, .f32⟩
  | .hbm, ⟨96, _⟩ => ⟨S1x16x2048x128, .f32⟩
  | .hbm, ⟨97, _⟩ => ⟨S1x16x2048x128, .f32⟩
  | .hbm, ⟨98, _⟩ => ⟨S1x2048x16x128, .f32⟩
  | .hbm, ⟨99, _⟩ => ⟨S1x2048x2048, .f32⟩
  | .hbm, ⟨100, _⟩ => ⟨S1x2048x16x128, .f32⟩
  | .hbm, ⟨101, _⟩ => ⟨S1x2048x2048, .f32⟩
  | .hbm, ⟨102, _⟩ => ⟨S1x2048x6144, .f32⟩
  | .hbm, ⟨103, _⟩ => ⟨S2048x6144, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c : Ref sig .tc := ⟨.hbm, 40, rfl⟩
abbrev main_v30 : Ref sig .tc := ⟨.hbm, 41, rfl⟩
abbrev main_v31 : Ref sig .tc := ⟨.hbm, 42, rfl⟩
abbrev main_c_4 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_5 : Ref sig .tc := ⟨.hbm, 50, rfl⟩
abbrev main_v38 : Ref sig .tc := ⟨.hbm, 51, rfl⟩
abbrev main_v39 : Ref sig .tc := ⟨.hbm, 52, rfl⟩
abbrev main_c_6 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_c_7 : Ref sig .tc := ⟨.hbm, 69, rfl⟩
abbrev main_v55 : Ref sig .tc := ⟨.hbm, 70, rfl⟩
abbrev main_v56 : Ref sig .tc := ⟨.hbm, 71, rfl⟩
abbrev main_c_8 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_c_9 : Ref sig .tc := ⟨.hbm, 79, rfl⟩
abbrev main_v63 : Ref sig .tc := ⟨.hbm, 80, rfl⟩
abbrev main_v64 : Ref sig .tc := ⟨.hbm, 81, rfl⟩
abbrev main_c_10 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩

abbrev nD : Nat := 1
abbrev τ : Topo := Topo.v7x

variable {F : FTy → Type} [FloatOps F]
-- ==== Kernel3.lean ====
abbrev S2048x2048 : Shape := ⟨2, ![2048, 2048]⟩
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .local _ .vmem, ⟨0, _⟩ => ⟨S256x2048, .f32⟩
  | .local _ .vmem, ⟨1, _⟩ => ⟨S256x2048, .f32⟩
  | .local _ .vmem, ⟨2, _⟩ => ⟨S2048x1024, .f32⟩
  | .local _ .vmem, ⟨3, _⟩ => ⟨S2048x1024, .f32⟩
  | .local _ .vmem, ⟨4, _⟩ => ⟨S256x1024, .f32⟩
  | .local _ .vmem, ⟨5, _⟩ => ⟨S256x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Evict.lean ====
/-
  Which columns an accumulated row keeps. A row of nonnegative numbers has a support of `c` columns; one step drops
  the last column of the support in the order "greater value first, then lower column". This file has that rule, the
  two ways of finding the dropped column (the greatest column among the smallest positive entries; the first `c - 1`
  positions of a stable sort by descending value), and the fact that a step keeps the size of the support.
-/
module

public import Idealize.ShloMosaic.Lib.SortFacts
public import Mathlib.Data.EReal.Basic
public import Mathlib.Data.EReal.Operations
public import Mathlib.Data.Prod.Lex
public import Mathlib.Data.Finset.Max

@[expose] public section

noncomputable section

namespace Cert.Evict

open Idealize.ShloMosaic

variable {n : Nat}

/-- Column `j` stays: it holds a positive entry and some positive entry comes after it. -/
def Kept (acc : Fin n → EReal) (j : Fin n) : Prop :=
  0 < acc j ∧ ∃ k, 0 < acc k ∧ (acc k < acc j ∨ (acc k = acc j ∧ j < k))

open Classical in
/-- One step: the row's new numbers are added and everything but the kept columns and the row's own is cleared. -/
def next (p acc : Fin n → EReal) (i : Nat) : Fin n → EReal := fun j =>
  (acc j + p j) * (if Kept acc j ∨ j.val = i then 1 else 0)

/-- What holds of the accumulated row before row `i`'s step. -/
structure Good (c : Nat) (acc : Fin n → EReal) (i : Nat) : Prop where
  nonneg : ∀ j, 0 ≤ acc j
  finite : ∀ j, acc j ≠ ⊤
  below : ∀ j, 0 < acc j → j.val < i
  card : (Finset.univ.filter fun j => 0 < acc j).card = c

/-- "Comes before": a greater value, or the same value at a lower column. -/
def Before (acc : Fin n → EReal) (a b : Fin n) : Prop := acc b < acc a ∨ (acc b = acc a ∧ a < b)

theorem Before.asymm {acc : Fin n → EReal} {a b : Fin n} (h : Before acc a b) : ¬ Before acc b a := by
  rintro (h' | ⟨h', h''⟩)
  · rcases h with h | ⟨h, -⟩
    · exact lt_asymm h h'
    · exact absurd h' (by rw [h]; exact lt_irrefl _)
  · rcases h with h | ⟨-, h⟩
    · exact absurd h (by rw [h']; exact lt_irrefl _)
    · exact lt_asymm h h''

theorem Before.total {acc : Fin n → EReal} {a b : Fin n} (h : a ≠ b) : Before acc a b ∨ Before acc b a := by
  rcases lt_trichotomy (acc a) (acc b) with h1 | h1 | h1
  · exact Or.inr (Or.inl h1)
  · rcases lt_or_gt_of_ne h with h2 | h2
    · exact Or.inl (Or.inr ⟨h1.symm, h2⟩)
    · exact Or.inr (Or.inr ⟨h1, h2⟩)
  · exact Or.inl (Or.inl h1)

/-- A nonempty support has a last column. -/
theorem exists_last (acc : Fin n → EReal) (hne : ∃ j, 0 < acc j) :
    ∃ l, 0 < acc l ∧ ∀ j, 0 < acc j → j ≠ l → Before acc j l := by
  obtain ⟨j0, hj0⟩ := hne
  obtain ⟨l, hl, hmax⟩ := Finset.exists_max_image (Finset.univ.filter fun j => 0 < acc j)
    (fun j => (toLex (OrderDual.toDual (acc j), j) : _ ×ₗ _)) ⟨j0, by simpa using hj0⟩
  refine ⟨l, by simpa using hl, fun j hj hjl => ?_⟩
  have h := hmax j (by simpa using hj)
  rw [Prod.Lex.le_iff] at h
  rcases h with h | ⟨h, h'⟩
  · exact Or.inl (by simpa using h)
  · exact Or.inr ⟨(by simpa using h.symm), lt_of_le_of_ne (by simpa using h') hjl⟩

theorem kept_iff_of_last {acc : Fin n → EReal} {l : Fin n} (hl : 0 < acc l)
    (hlast : ∀ j, 0 < acc j → j ≠ l → Before acc j l) (j : Fin n) : Kept acc j ↔ 0 < acc j ∧ j ≠ l := by
  constructor
  · rintro ⟨hj, k, hk, h⟩
    refine ⟨hj, ?_⟩
    rintro rfl
    have hkj : k ≠ j := by
      rintro rfl
      rcases h with h | ⟨-, h⟩
      · exact lt_irrefl _ h
      · exact lt_irrefl _ h
    exact (hlast k hk hkj).asymm h
  · rintro ⟨hj, hne⟩
    exact ⟨hj, l, hl, hlast j hj hne⟩

/-- The dropped column, found as the greatest column among the smallest positive entries. -/
theorem kept_iff_of_min {acc : Fin n → EReal} {low : EReal} {l : Fin n} (hlow : ∀ j, 0 < acc j → low ≤ acc j)
    (hpos : 0 < low) (hl : acc l = low) (hmax : ∀ j, acc j = low → j ≤ l) (j : Fin n) :
    Kept acc j ↔ 0 < acc j ∧ j ≠ l := by
  refine kept_iff_of_last (by rw [hl]; exact hpos) (fun k hk hkl => ?_) j
  rcases lt_or_eq_of_le (hlow k hk) with h | h
  · exact Or.inl (by rw [hl]; exact h)
  · exact Or.inr ⟨by rw [hl, h], lt_of_le_of_ne (hmax k h.symm) hkl⟩

theorem card_kept {c : Nat} {acc : Fin n → EReal} {i : Nat} (g : Good (c + 1) acc i) [DecidablePred (Kept acc)] :
    (Finset.univ.filter fun j => Kept acc j).card = c := by
  classical
  have hne : (Finset.univ.filter fun j => 0 < acc j).Nonempty := by
    rw [← Finset.card_pos, g.card]; omega
  obtain ⟨j0, h0⟩ := hne
  obtain ⟨l, hl, hlast⟩ := exists_last acc ⟨j0, by simpa using h0⟩
  have : (Finset.univ.filter fun j => Kept acc j) = (Finset.univ.filter fun j => 0 < acc j).erase l := by
    ext j
    simp only [Finset.mem_filter, Finset.mem_univ, true_and, Finset.mem_erase, kept_iff_of_last hl hlast]
    tauto
  rw [this, Finset.card_erase_of_mem (by simpa using hl), g.card]
  rfl

theorem next_pos_iff {c : Nat} {p acc : Fin n → EReal} {i : Nat} (g : Good c acc i) (hp : ∀ j, 0 < p j)
    (j : Fin n) : 0 < next p acc i j ↔ Kept acc j ∨ j.val = i := by
  unfold next
  split
  · next h => exact ⟨fun _ => h, fun _ => by rw [mul_one]; exact lt_of_lt_of_le (hp j) (le_add_of_nonneg_left (g.nonneg j))⟩
  · next h => simp [h]

/-- A step keeps what holds of the row. -/
theorem Good.next {c : Nat} {p acc : Fin n → EReal} {i : Nat} (g : Good (c + 1) acc i) (hp : ∀ j, 0 < p j)
    (hp' : ∀ j, p j ≠ ⊤) (hi : i < n) : Good (c + 1) (next p acc i) (i + 1) where
  nonneg j := by
    unfold Evict.next
    split
    · rw [mul_one]; exact add_nonneg (g.nonneg j) (hp j).le
    · simp
  finite j := by
    unfold Evict.next
    split
    · rw [mul_one]; exact EReal.add_ne_top (g.finite j) (hp' j)
    · simp
  below j hj := by
    rcases (next_pos_iff g hp j).mp hj with h | h
    · have := g.below j h.1; omega
    · omega
  card := by
    classical
    have : (Finset.univ.filter fun j => 0 < Evict.next p acc i j)
        = insert (⟨i, hi⟩ : Fin n) (Finset.univ.filter fun j => Kept acc j) := by
      ext j
      simp only [Finset.mem_filter, Finset.mem_univ, true_and, Finset.mem_insert, next_pos_iff g hp, Fin.ext_iff]
      tauto
    rw [this, Finset.card_insert_of_notMem, card_kept g]
    intro h
    have h1 : Kept acc ⟨i, hi⟩ := by simpa using h
    exact absurd (g.below _ h1.1) (lt_irrefl _)

/-! ### A stable sort by descending value -/

theorem pairwise_insert (acc : Fin n → EReal) (a : Fin n) (l : List (Fin n)) (ha : ∀ b ∈ l, a < b)
    (hl : l.Pairwise (Before acc)) :
    (insertBefore (fun x y => decide (acc y < acc x)) a l).Pairwise (Before acc) := by
  induction l with
  | nil => simp [insertBefore]
  | cons b l ih =>
    obtain ⟨hb, hl'⟩ := List.pairwise_cons.mp hl
    unfold insertBefore
    split
    · next h =>
      refine List.pairwise_cons.mpr ⟨fun x hx => ?_, ih (fun x hx => ha x (List.mem_cons_of_mem _ hx)) hl'⟩
      rcases List.mem_cons.mp ((perm_insertBefore _ a l).mem_iff.mp hx) with rfl | hx'
      · exact Or.inl (by simpa using h)
      · exact hb x hx'
    · next h =>
      have hab : acc b ≤ acc a := by simpa using h
      refine List.pairwise_cons.mpr ⟨fun x hx => ?_, hl⟩
      have hle : acc x ≤ acc a := by
        rcases List.mem_cons.mp hx with rfl | hx'
        · exact hab
        · rcases hb x hx' with h1 | ⟨h1, -⟩
          · exact h1.le.trans hab
          · exact h1.le.trans hab
      rcases lt_or_eq_of_le hle with h1 | h1
      · exact Or.inl h1
      · exact Or.inr ⟨h1, ha x hx⟩

theorem pairwise_sort (acc : Fin n → EReal) (l : List (Fin n)) (hl : l.Pairwise (· < ·)) :
    (stableSort (fun x y => decide (acc y < acc x)) l).Pairwise (Before acc) := by
  induction l with
  | nil => simp [stableSort]
  | cons a l ih =>
    obtain ⟨ha, hl'⟩ := List.pairwise_cons.mp hl
    unfold stableSort
    exact pairwise_insert acc a _ (fun b hb => ha b ((perm_stableSort _ l).mem_iff.mp hb)) (ih hl')

/-- The positions a descending sort reads. -/
abbrev ranked (acc : Fin n → EReal) : Fin n → Fin n := sortedFrom fun x y => decide (acc y < acc x)

theorem ranked_before (acc : Fin n → EReal) (i j : Fin n) (h : i < j) :
    Before acc (ranked acc i) (ranked acc j) := by
  have hp := List.pairwise_iff_get.mp (pairwise_sort acc (List.finRange n) (List.pairwise_lt_finRange n))
  exact hp (i.cast (length_sortPositions n _).symm) (j.cast (length_sortPositions n _).symm) h

/-- The columns before one are as many as its rank. -/
theorem card_before (acc : Fin n → EReal) (k : Fin n) [DecidablePred fun x => Before acc x (ranked acc k)] :
    (Finset.univ.filter fun x => Before acc x (ranked acc k)).card = k.val := by
  classical
  have h1 : (Finset.univ.filter fun x => Before acc x (ranked acc k)) = (Finset.Iio k).image (ranked acc) := by
    ext x
    simp only [Finset.mem_filter, Finset.mem_univ, true_and, Finset.mem_image, Finset.mem_Iio]
    constructor
    · intro hx
      obtain ⟨a, rfl⟩ := sortedFrom_surjective (fun x y => decide (acc y < acc x)) x
      refine ⟨a, ?_, rfl⟩
      by_contra hlt
      rcases lt_or_eq_of_le (not_lt.mp hlt) with h | h
      · exact (ranked_before acc k a h).asymm hx
      · subst h; exact hx.asymm hx
    · rintro ⟨a, ha, rfl⟩
      exact ranked_before acc a k ha
  rw [h1, Finset.card_image_of_injective _ (sortedFrom_injective _), Fin.card_Iio]

/-- THE FIRST `c` POSITIONS OF THE SORT ARE THE KEPT COLUMNS of a row with `c + 1` positive entries. -/
theorem ranked_iff_kept {c : Nat} {acc : Fin n → EReal} {i : Nat} (g : Good (c + 1) acc i) (j : Fin n) :
    (∃ k : Fin n, k.val < c ∧ ranked acc k = j) ↔ Kept acc j := by
  classical
  obtain ⟨k, rfl⟩ := sortedFrom_surjective (fun x y => decide (acc y < acc x)) j
  change (∃ k' : Fin n, k'.val < c ∧ ranked acc k' = ranked acc k) ↔ Kept acc (ranked acc k)
  have hk : (∃ k' : Fin n, k'.val < c ∧ ranked acc k' = ranked acc k) ↔ k.val < c :=
    ⟨fun ⟨k', h, e⟩ => by rw [← sortedFrom_injective _ e]; exact h, fun h => ⟨k, h, rfl⟩⟩
  rw [hk]
  have hcard := card_before acc k
  have hne : (Finset.univ.filter fun j => 0 < acc j).Nonempty := by
    rw [← Finset.card_pos, g.card]; omega
  obtain ⟨j0, h0⟩ := hne
  obtain ⟨l, hl, hlast⟩ := exists_last acc ⟨j0, by simpa using h0⟩
  rw [kept_iff_of_last hl hlast]
  constructor
  · intro hlt
    have hpos : 0 < acc (ranked acc k) := by
      by_contra hn
      have h0 : acc (ranked acc k) = 0 := le_antisymm (not_lt.mp hn) (g.nonneg _)
      have hsub : (Finset.univ.filter fun j => 0 < acc j) ⊆ (Finset.univ.filter fun x => Before acc x (ranked acc k)) := by
        intro x hx
        simp only [Finset.mem_filter, Finset.mem_univ, true_and] at hx ⊢
        exact Or.inl (by rw [h0]; exact hx)
      have := Finset.card_le_card hsub
      rw [g.card, hcard] at this
      omega
    refine ⟨hpos, fun e => ?_⟩
    have hsub : (Finset.univ.filter fun j => 0 < acc j).erase l ⊆ (Finset.univ.filter fun x => Before acc x (ranked acc k)) := by
      intro x hx
      simp only [Finset.mem_filter, Finset.mem_univ, true_and, Finset.mem_erase] at hx ⊢
      rw [e]
      exact hlast x hx.2 hx.1
    have := Finset.card_le_card hsub
    rw [Finset.card_erase_of_mem (by simpa using hl), g.card, hcard] at this
    omega
  · rintro ⟨hpos, hnl⟩
    have hkl := hlast _ hpos hnl
    have hsub : (Finset.univ.filter fun x => Before acc x (ranked acc k))
        ⊆ ((Finset.univ.filter fun j => 0 < acc j).erase l).erase (ranked acc k) := by
      intro x hx
      simp only [Finset.mem_filter, Finset.mem_univ, true_and, Finset.mem_erase] at hx ⊢
      refine ⟨?_, ?_, ?_⟩
      · intro e; rw [e] at hx; exact hx.asymm hx
      · intro e; rw [e] at hx; exact hx.asymm hkl
      · rcases hx with hx | ⟨hx, -⟩
        · exact hpos.trans hx
        · rw [← hx]; exact hpos
    have := Finset.card_le_card hsub
    rw [hcard, Finset.card_erase_of_mem (by simpa [hnl] using hpos), Finset.card_erase_of_mem (by simpa using hl), g.card] at this
    have h2 : 0 < ((Finset.univ.filter fun j => 0 < acc j).erase l).card :=
      Finset.card_pos.mpr ⟨ranked acc k, by simpa [hnl] using hpos⟩
    rw [Finset.card_erase_of_mem (by simpa using hl), g.card] at h2
    omega

end Cert.Evict

end
-- ==== Proof.KernelStep.lean ====
/-
  One row's step of the kernel's loop, read element by element: the word the kernel builds for a column is one exactly
  when the column is kept (`Evict.Kept`) or is the row's own column.
-/
module

public import proofs.«01_k».proof.Proof.Gen.KernelIdeal.Skeleton
public import proofs.«01_k».proof.Proof.Evict
public import Idealize.ShloMosaic.Lib.Pointwise
public import Idealize.ShloMosaic.Lib.SortNet.Extract
public import Idealize.ShloMosaic.PureOps.Ideal.Laws

@[expose] public section

set_option maxRecDepth 16384

noncomputable section

namespace Cert.KernelIdeal.Pay

open Idealize.ShloMosaic Cert.KernelIdeal Cert.KernelIdeal.Gen

/-- A one-row block as a function of its column. -/
abbrev row (a : Vec Ideal S1x2048 .f32) : Fin 2048 → EReal := fun j => a (ix2 0 j)

/-- The positive entries of a row, the rest at plus infinity. -/
def masked (a : FVec Ideal S1x2048 .f32) : FVec Ideal S1x2048 .f32 :=
  select (cmpf .ogt a (broadcast S1x2048 (Scalar.ofBits (F := Ideal) .f32 0x00000000#32))) a (broadcast S1x2048 (Scalar.ofBits (F := Ideal) .f32 0x7F800000#32))

/-- The smallest positive entry, as the kernel finds it. -/
def low (a : Vec Ideal S1x2048 .f32) : Ideal .f32 :=
  extractAt ![0, 0, 0] (shapeCast S1x1x1 (multiReduction .minimumf [1, 2] S1 (shapeCast S1x1x2048 (masked a) shapeCasts_S1x2048_S1x1x2048)
    0x7F800000#32 reduces_S1x1x2048_S1 (.inl rfl) rfl) shapeCasts_S1_S1x1x1) inpos_S1x1x1_p0_0_0

/-- The columns at which a row equals a number, the others at minus one. -/
def hits (v : IVec S1x2048 32) (a : Vec Ideal S1x2048 .f32) (x : Ideal .f32) : IVec S1x2048 32 :=
  select (cmpf (F := Ideal) (φ := .f32) .oeq a (broadcast S1x2048 x)) v (broadcast S1x2048 4294967295#32)

/-- The greatest of those columns, as the kernel finds it. -/
def lastWord (v : IVec S1x2048 32) (a : Vec Ideal S1x2048 .f32) (x : Ideal .f32) : BitVec 32 :=
  extractAt ![0, 0, 0] (shapeCast S1x1x1 (multiReductionI .maxsi [1, 2] S1 (shapeCast S1x1x2048 (hits v a x) shapeCasts_S1x2048_S1x1x2048)
    2147483648#32 reduces_S1x1x2048_S1 rfl) shapeCasts_S1_S1x1x1) inpos_S1x1x1_p0_0_0

/-- The word of the row whose step this is. -/
def token (arg1 v32 c1 : BitVec 32) (k : Nat) : BitVec 32 := Scalar.addi (Scalar.muli arg1 256#32) (Scf.iv v32 c1 k)

theorem pay4_eq (i : grid0.Coords) (arg1 v32 c1 : BitVec 32) (v25 : IVec S1x2048 32) (t : Fin (k0_t1_loop i).trips)
    (a : Vec Ideal S1x2048 .f32) :
    k0_pay4 i arg1 v25 v32 c1 t a
      = ori (andi (cmpf (F := Ideal) (φ := .f32) .ogt a (broadcast S1x2048 (Scalar.ofBits (F := Ideal) .f32 0x00000000#32)))
          (cmpi .ne v25 (broadcast S1x2048 (lastWord v25 a (low a)))))
        (cmpi .eq v25 (broadcast S1x2048 (token arg1 v32 c1 t))) := rfl

theorem s1_eq (x y : S1.Idx) : x = y := by
  rw [eq_ix1 x, eq_ix1 y]
  congr 1
  exact Subsingleton.elim (α := Fin 1) _ _

theorem minf_eq (x y : Ideal .f32) : FloatOps.minimumf x y = min x y := rfl

theorem fold_min_spec {ι : Type} [DecidableEq ι] (g : ι → EReal) (s : Finset ι) :
    (∀ i ∈ s, s.fold min ⊤ g ≤ g i) ∧ (s.fold min ⊤ g = ⊤ ∨ ∃ i ∈ s, s.fold min ⊤ g = g i) := by
  refine Finset.induction_on s ⟨fun i hi => absurd hi (Finset.notMem_empty i), Or.inl (by rw [Finset.fold_empty])⟩ ?_
  intro a s has ⟨h1, h2⟩
  rw [Finset.fold_insert has]
  refine ⟨fun i hi => ?_, ?_⟩
  · rcases Finset.mem_insert.mp hi with rfl | hi
    · exact min_le_left _ _
    · exact (min_le_right _ _).trans (h1 i hi)
  · rcases min_choice (g a) (s.fold min ⊤ g) with h | h
    · exact Or.inr ⟨a, Finset.mem_insert_self _ _, h⟩
    · rw [h]
      rcases h2 with h2 | ⟨i, hi, h2⟩
      · exact Or.inl h2
      · exact Or.inr ⟨i, Finset.mem_insert_of_mem hi, h2⟩

theorem low_spec (a : Vec Ideal S1x2048 .f32) :
    (∀ j : Fin 2048, low a ≤ masked a (ix2 0 j)) ∧ (low a = ⊤ ∨ ∃ j : Fin 2048, low a = masked a (ix2 0 j)) := by
  have e : low a = (Finset.univ : Finset S1x1x2048.Idx).fold min ⊤ (shapeCast S1x1x2048 (masked a) shapeCasts_S1x2048_S1x1x2048) := by
    refine (multiReduction_minimumf_eq_fold (F := Ideal) (shapeCast S1x1x2048 (masked a) shapeCasts_S1x2048_S1x1x2048) 0x7F800000#32
      reduces_S1x1x2048_S1 (.inl rfl) rfl (Shape.reshapeEquiv shapeCasts_S1_S1x1x1 fun a => ⟨![0, 0, 0] a, inpos_S1x1x1_p0_0_0 a⟩)).trans ?_
    rw [Finset.filter_true_of_mem fun i _ => s1_eq _ _]
    have ht : (FloatOps.ofBits FTy.f32 0x7F800000#32 : Ideal .f32) = (⊤ : EReal) := by
      change Ideal.ofBits .f32 0x7F800000#32 = ⊤
      simp [Ideal.ofBits, Ideal.ieee]
    rw [ht]
    rfl
  obtain ⟨h1, h2⟩ := fold_min_spec (shapeCast S1x1x2048 (masked a) shapeCasts_S1x2048_S1x1x2048) Finset.univ
  rw [← e] at h1 h2
  refine ⟨fun j => ?_, ?_⟩
  · have := h1 (ix3 0 0 j) (Finset.mem_univ _)
    pointwise at this
    exact this
  · rcases h2 with h2 | ⟨i, -, h2⟩
    · exact Or.inl h2
    · refine Or.inr ⟨i 2, ?_⟩
      rw [h2]
      idx_vars i
      pointwise

theorem lastWord_spec (v : IVec S1x2048 32) (a : Vec Ideal S1x2048 .f32) (x : Ideal .f32) :
    (∀ j : Fin 2048, (hits v a x (ix2 0 j)).toInt ≤ (lastWord v a x).toInt)
      ∧ (lastWord v a x = 2147483648#32 ∨ ∃ j : Fin 2048, lastWord v a x = hits v a x (ix2 0 j)) := by
  have e : lastWord v a x = (Finset.univ : Finset S1x1x2048.Idx).fold IntOp.maxsi 2147483648#32
      (shapeCast S1x1x2048 (hits v a x) shapeCasts_S1x2048_S1x1x2048) := by
    refine (multiReductionI_eq_fold .maxsi (shapeCast S1x1x2048 (hits v a x) shapeCasts_S1x2048_S1x1x2048) 2147483648#32
      reduces_S1x1x2048_S1 rfl (Shape.reshapeEquiv shapeCasts_S1_S1x1x1 fun a => ⟨![0, 0, 0] a, inpos_S1x1x1_p0_0_0 a⟩)).trans ?_
    rw [Finset.filter_true_of_mem fun i _ => s1_eq _ _]
    rfl
  obtain ⟨-, h1, h2⟩ := SortNet.fold_maxsi_spec (shapeCast S1x1x2048 (hits v a x) shapeCasts_S1x2048_S1x1x2048) Finset.univ 2147483648#32
  rw [← e] at h1 h2
  refine ⟨fun j => ?_, ?_⟩
  · have := h1 (ix3 0 0 j) (Finset.mem_univ _)
    pointwise at this
    exact this
  · rcases h2 with h2 | ⟨i, -, h2⟩
    · exact Or.inl h2
    · refine Or.inr ⟨i 2, ?_⟩
      rw [h2]
      idx_vars i
      pointwise

theorem ofBool_ori (p q : Bool) : IntOp.ori (BitVec.ofBool p) (BitVec.ofBool q) = BitVec.ofBool (p || q) := by
  cases p <;> cases q <;> rfl
theorem ofBool_andi (p q : Bool) : IntOp.andi (BitVec.ofBool p) (BitVec.ofBool q) = BitVec.ofBool (p && q) := by
  cases p <;> cases q <;> rfl

theorem masked_apply (a : Vec Ideal S1x2048 .f32) (j : Fin 2048) :
    masked a (ix2 0 j) = if 0 < row a j then row a j else ⊤ := by
  have ht : Ideal.ofBits .f32 0x7F800000#32 = ⊤ := by simp [Ideal.ofBits, Ideal.ieee]
  pointwise [masked]
  rw [ht]

theorem hits_apply (v : IVec S1x2048 32) (a : Vec Ideal S1x2048 .f32) (x : Ideal .f32) (j : Fin 2048) :
    hits v a x (ix2 0 j) = if row a j = x then v (ix2 0 j) else 4294967295#32 := by
  pointwise [hits]

theorem pay4_iff (i : grid0.Coords) (arg1 v32 c1 : BitVec 32) (v25 : IVec S1x2048 32) (t : Fin (k0_t1_loop i).trips)
    (a : Vec Ideal S1x2048 .f32) (hv : ∀ j : Fin 2048, v25 (ix2 0 j) = BitVec.ofNat 32 j.val)
    (hpos : ∃ j, 0 < row a j) (hfin : ∀ j, row a j ≠ ⊤) (T : Nat) (hT : T < 2048)
    (htok : token arg1 v32 c1 t = BitVec.ofNat 32 T) (j : Fin 2048) :
    k0_pay4 i arg1 v25 v32 c1 t a (ix2 0 j) = 1#1 ↔ Evict.Kept (row a) j ∨ j.val = T := by
  obtain ⟨h1, h2⟩ := low_spec a
  obtain ⟨g1, g2⟩ := lastWord_spec v25 a (low a)
  have hne : low a ≠ ⊤ := by
    obtain ⟨j0, h0⟩ := hpos
    have := h1 j0
    rw [masked_apply, if_pos h0] at this
    exact fun e => hfin j0 (top_le_iff.mp (e ▸ this))
  have hlow : ∀ k, 0 < row a k → low a ≤ row a k := fun k hk => by
    have := h1 k
    rwa [masked_apply, if_pos hk] at this
  have hmem : ∃ k, 0 < row a k ∧ low a = row a k := by
    rcases h2 with h2 | ⟨k, h2⟩
    · exact absurd h2 hne
    · rw [masked_apply] at h2
      split at h2
      · next hk => exact ⟨k, hk, h2⟩
      · exact absurd h2 hne
  obtain ⟨l0, hl0, el0⟩ := hmem
  have hxp : (0 : EReal) < low a := by rw [el0]; exact hl0
  have hint : ∀ k : Fin 2048, (BitVec.ofNat 32 k.val).toInt = k.val := fun k => by
    have := k.isLt
    rw [BitVec.toInt_eq_toNat_of_lt] <;> rw [BitVec.toNat_ofNat] <;> omega
  have hw : ∃ l : Fin 2048, lastWord v25 a (low a) = BitVec.ofNat 32 l.val ∧ row a l = low a := by
    have h0 := g1 l0
    rw [hits_apply, if_pos el0.symm, hv, hint] at h0
    rcases g2 with g2 | ⟨l, g2⟩
    · rw [g2] at h0
      exact absurd h0 (by have : (2147483648#32 : BitVec 32).toInt = -2147483648 := by decide
                          omega)
    · rw [hits_apply] at g2
      split at g2
      · next hl => exact ⟨l, by rw [g2, hv], hl⟩
      · rw [g2] at h0
        exact absurd h0 (by have : (4294967295#32 : BitVec 32).toInt = -1 := by decide
                            omega)
  obtain ⟨l, hl, el⟩ := hw
  have hmax : ∀ k, row a k = low a → k ≤ l := fun k hk => by
    have := g1 k
    rw [hits_apply, if_pos hk, hv, hl, hint, hint] at this
    exact_mod_cast this
  rw [Evict.kept_iff_of_min hlow hxp el hmax j, pay4_eq, htok, hl]
  have hofNat : ∀ x y : Nat, x < 2048 → y < 2048 → (BitVec.ofNat 32 x = BitVec.ofNat 32 y ↔ x = y) := fun x y hx hy => by
    rw [← BitVec.toNat_inj, BitVec.toNat_ofNat, BitVec.toNat_ofNat, Nat.mod_eq_of_lt (by omega), Nat.mod_eq_of_lt (by omega)]
  pointwise
  rw [hv]
  simp only [IntOp.cmpi, ofBool_andi, ofBool_ori]
  rw [show (1#1 : BitVec 1) = BitVec.ofBool true from rfl, BitVec.ofBool_eq_iff_eq]
  simp only [Bool.or_eq_true, Bool.and_eq_true, decide_eq_true_eq, bne_iff_ne, beq_iff_eq, ne_eq,
    hofNat j.val l.val j.isLt l.isLt, hofNat j.val T j.isLt hT, Fin.ext_iff]

end Cert.KernelIdeal.Pay

end
-- ==== Proof.Spec.lean ====
/-
  What both programs compute for one head, as plain mathematics over the extended reals: the scores, the softmax of a
  row, the accumulated probabilities row after row with one column dropped per row, the columns a row keeps, and the
  result. With real queries and keys every probability is positive and real, and the accumulated row before row `i`
  has exactly 204 positive entries, all at columns below `i`.
-/
module

public import proofs.«01_k».proof.Proof.Evict
public import Idealize.ShloMosaic.PureOps.Ideal
public import Idealize.ShloMosaic.PureOps.Ideal.Laws

@[expose] public section

noncomputable section

namespace Cert.Heavy

open Idealize.ShloMosaic

abbrev Row := Fin 2048 → EReal

/-- The lowest finite number of the format, as an extended real. -/
abbrev lo : EReal := Ideal.ofBits .f32 0xFF7FFFFF#32

/-- The number a maximum starts from. -/
abbrev bot : EReal := Ideal.ofBits .f32 0xFF800000#32

theorem bot_eq : bot = ⊥ := by simp [bot, Ideal.ofBits, Ideal.ieee]

/-- The softmax of a row. -/
def soft (a : Row) : Row := fun j =>
  Ideal.div (Ideal.exp (a j - Finset.univ.fold max bot a)) (∑ x, Ideal.exp (a x - Finset.univ.fold max bot a))

/-- The scores of a head. -/
def score (q k : Fin 2048 → Fin 128 → EReal) (i : Fin 2048) : Row := fun j =>
  max ((∑ x, q i x * k j x) * (((Real.sqrt 128)⁻¹ : ℝ) : EReal)) lo

/-- The accumulated row before row 204. -/
def start (p : Fin 2048 → Row) : Row := fun j => if j.val < 204 then ∑ x : Fin 204, p ⟨x.val, by omega⟩ j else 0

/-- The accumulated row before row `204 + n`. -/
def accs (p : Fin 2048 → Row) : Nat → Row
  | 0 => start p
  | n + 1 => Evict.next (p ⟨(204 + n) % 2048, Nat.mod_lt _ (by omega)⟩) (accs p n) (204 + n)

theorem accs_succ (p : Fin 2048 → Row) (n : Nat) :
    accs p (n + 1) = Evict.next (p ⟨(204 + n) % 2048, Nat.mod_lt _ (by omega)⟩) (accs p n) (204 + n) := rfl

/-- The columns row `i` keeps: not later than `i`, and near to `i` or kept by the accumulated row. -/
def Keep (p : Fin 2048 → Row) (i j : Fin 2048) : Prop :=
  j.val ≤ i.val ∧ (i.val ≤ j.val + 204 ∨ (204 ≤ i.val ∧ Evict.Kept (accs p (i.val - 204)) j))

open Classical in
/-- A head's scores, zero where the row does not keep the column. -/
def maskedScore (q k : Fin 2048 → Fin 128 → EReal) (i : Fin 2048) : Row := fun j =>
  if Keep (fun i => soft (score q k i)) i j then score q k i j else 0

/-- A head's result. -/
def out (q k v : Fin 2048 → Fin 128 → EReal) (i : Fin 2048) (d : Fin 128) : EReal :=
  ∑ x, soft (maskedScore q k i) x * v x d

/-! ### Real numbers in, positive real numbers out -/

theorem exists_fold_max (r : Fin 2048 → ℝ) : ∃ M : ℝ, Finset.univ.fold max bot (fun j => ((r j : ℝ) : EReal)) = (M : EReal) := by
  have key : ∀ s : Finset (Fin 2048), s.Nonempty → ∃ M : ℝ, s.fold max bot (fun j => ((r j : ℝ) : EReal)) = (M : EReal) := by
    intro s hs
    induction hs using Finset.Nonempty.cons_induction with
    | singleton a => exact ⟨r a, by rw [Finset.fold_singleton, bot_eq, max_eq_left bot_le]⟩
    | cons a s h _ ih =>
      obtain ⟨M, hM⟩ := ih
      exact ⟨max (r a) M, by rw [Finset.fold_cons, hM]; exact (EReal.coe_strictMono.monotone.map_max).symm⟩
  exact key _ ⟨0, Finset.mem_univ _⟩

theorem coe_sum {ι : Type} (s : Finset ι) (f : ι → ℝ) : (∑ x ∈ s, ((f x : ℝ) : EReal)) = ((∑ x ∈ s, f x : ℝ) : EReal) := by
  classical
  induction s using Finset.induction_on with
  | empty => simp
  | insert a s h ih => rw [Finset.sum_insert h, Finset.sum_insert h, ih, EReal.coe_add]

theorem soft_real (a : Row) (ha : ∀ j, ∃ r : ℝ, a j = r) (j : Fin 2048) : ∃ r : ℝ, 0 < r ∧ soft a j = r := by
  choose r hr using ha
  obtain rfl : a = fun j => ((r j : ℝ) : EReal) := funext hr
  obtain ⟨M, hM⟩ := exists_fold_max r
  unfold soft
  simp only [hM, ← EReal.coe_sub, Ideal.exp_coe, coe_sum]
  have hs : 0 < ∑ x : Fin 2048, Real.exp (r x - M) := Finset.sum_pos (fun x _ => Real.exp_pos _) ⟨0, Finset.mem_univ _⟩
  refine ⟨Real.exp (r j - M) / ∑ x : Fin 2048, Real.exp (r x - M), div_pos (Real.exp_pos _) hs, ?_⟩
  rw [Ideal.div_coe hs.ne', ← EReal.coe_mul, mul_one_div]

theorem lo_real : ∃ r : ℝ, lo = r := by
  simp [lo, Ideal.ofBits, Ideal.ieee, -EReal.coe_mul]
  exact ⟨_, (EReal.coe_neg _).symm⟩

theorem score_real (q k : Fin 2048 → Fin 128 → EReal) (hq : ∀ i x, ∃ r : ℝ, q i x = r) (hk : ∀ i x, ∃ r : ℝ, k i x = r)
    (i j : Fin 2048) : ∃ r : ℝ, score q k i j = r := by
  choose q' hq' using hq
  choose k' hk' using hk
  obtain ⟨l, hl⟩ := lo_real
  unfold score
  simp only [hq', hk', hl, ← EReal.coe_mul, coe_sum]
  exact ⟨_, (EReal.coe_strictMono.monotone.map_max).symm⟩

/-! ### The accumulated row -/

theorem start_pos_iff (p : Fin 2048 → Row) (hp : ∀ i j, ∃ r : ℝ, 0 < r ∧ p i j = r) (j : Fin 2048) :
    0 < start p j ↔ j.val < 204 := by
  choose r hr hp using hp
  unfold start
  split
  · next h =>
    refine ⟨fun _ => h, fun _ => ?_⟩
    simp only [hp, coe_sum]
    exact_mod_cast Finset.sum_pos (fun x _ => hr _ _) ⟨0, Finset.mem_univ _⟩
  · next h => simp [h]

theorem good_start (p : Fin 2048 → Row) (hp : ∀ i j, ∃ r : ℝ, 0 < r ∧ p i j = r) : Evict.Good 204 (start p) 204 where
  nonneg j := by
    by_cases h : j.val < 204
    · exact ((start_pos_iff p hp j).mpr h).le
    · unfold start; rw [if_neg h]
  finite j := by
    choose r hr hp using hp
    unfold start
    split
    · simp only [hp, coe_sum]; exact EReal.coe_ne_top _
    · simp
  below j hj := (start_pos_iff p hp j).mp hj
  card := by
    have : (Finset.univ.filter fun j => 0 < start p j) = Finset.Iio (⟨204, by omega⟩ : Fin 2048) := by
      ext j
      simp only [Finset.mem_filter, Finset.mem_univ, true_and, start_pos_iff p hp, Finset.mem_Iio, Fin.lt_def]
    rw [this, Fin.card_Iio]

theorem good_accs (p : Fin 2048 → Row) (hp : ∀ i j, ∃ r : ℝ, 0 < r ∧ p i j = r) (n : Nat) (hn : n ≤ 1844) :
    Evict.Good 204 (accs p n) (204 + n) := by
  induction n with
  | zero => exact good_start p hp
  | succ n ih =>
    refine (ih (by omega)).next (fun j => ?_) (fun j => ?_) (by omega)
    · obtain ⟨r, h, e⟩ := hp ⟨(204 + n) % 2048, Nat.mod_lt _ (by omega)⟩ j
      rw [e]; exact_mod_cast h
    · obtain ⟨r, h, e⟩ := hp ⟨(204 + n) % 2048, Nat.mod_lt _ (by omega)⟩ j
      rw [e]; exact EReal.coe_ne_top _

end Cert.Heavy

end
-- ==== Proof.KernelLoop.lean ====
/-
  The kernel's loop over the rows of one block, from what one trip writes: after `k` trips the accumulator holds the
  accumulated row `k` steps on, and `k` rows of the block's scores are masked by the columns their row keeps.
-/
module

public import proofs.«01_k».proof.Proof.Gen.KernelIdeal.Frame
public import proofs.«01_k».proof.Proof.KernelStep
public import proofs.«01_k».proof.Proof.Spec
public import Idealize.ShloMosaic.Lib.WritesUnit
public import Idealize.ShloMosaic.Lib.VecWindow

@[expose] public section

set_option maxRecDepth 16384

noncomputable section

namespace Cert.KernelIdeal.Pay

open Idealize.ShloMosaic Idealize.ShloMosaic.TcCoe Idealize.SL.Sem Cert.KernelIdeal Cert.KernelIdeal.Gen

/-! ### Words -/

/-- The row of its block at which block `J`'s loop starts. -/
abbrev lo (J : Nat) : Nat := 204 - 256 * J

/-- The loop's lower bound in words, as the kernel computes it. -/
abbrev lbWord (i : grid0.Coords) : BitVec 32 :=
  Scalar.maxsi (Scalar.subi 204#32 (Scalar.muli (BitVec.ofNat 32 (i 1).val) 256#32)) 0#32

theorem lb_eq (i : grid0.Coords) : lbWord i = BitVec.ofNat 32 (lo (i 1).val) := by
  have h : (i 1).val < 8 := (i 1).isLt
  unfold lbWord
  generalize (i 1).val = J at h
  interval_cases J <;> rfl

theorem iv_eq (b k : Nat) : Scf.iv (BitVec.ofNat 32 b) 1#32 k = BitVec.ofNat 32 (b + k) := by
  unfold Scf.iv
  rw [mul_one_bv, BitVec.ofNat_add]
where mul_one_bv {x : BitVec 32} : x * 1#32 = x := BitVec.mul_one x

theorem trips_eq (i : grid0.Coords) : (k0_t1_loop i).trips = 256 - lo (i 1).val := by
  have h : (i 1).val < 8 := (i 1).isLt
  unfold k0_t1_loop
  simp only
  generalize (i 1).val = J at h
  interval_cases J <;> decide

theorem off_eq (i : grid0.Coords) (k : Fin (k0_t1_loop i).trips) : k0_off1 i k = ![lo (i 1).val + k.val, 0] := by
  have hk := k.isLt
  have ht := trips_eq i
  have e : (Scf.iv (lbWord i) 1#32 k.val).toNat = lo (i 1).val + k.val := by
    rw [lb_eq, iv_eq, BitVec.toNat_ofNat]
    exact Nat.mod_eq_of_lt (by unfold lo; omega)
  exact congrArg (fun n : Nat => ![n, 0]) e

theorem token_eq (i : grid0.Coords) (k : Nat) :
    token (BitVec.ofNat 32 (i 1).val) (lbWord i) 1#32 k = BitVec.ofNat 32 (256 * (i 1).val + (lo (i 1).val + k)) := by
  unfold token
  rw [lb_eq, iv_eq]
  change BitVec.ofNat 32 (i 1).val * BitVec.ofNat 32 256 + _ = _
  rw [← BitVec.ofNat_mul, ← BitVec.ofNat_add, Nat.mul_comm]

/-! ### One row's mask and the accumulator's step -/

theorem pay6_eq (i : grid0.Coords) (arg1 v32 c1 : BitVec 32) (v25 : IVec S1x2048 32) (t : Fin (k0_t1_loop i).trips)
    (a : Vec Ideal S1x2048 .f32) :
    k0_pay6 i arg1 v25 v32 c1 t a
      = andi (ori (k0_pay4 i arg1 v25 v32 c1 t a) (cmpi .sge v25 (broadcast S1x2048 (Scalar.subi (token arg1 v32 c1 t) 204#32))))
        (cmpi .sle v25 (broadcast S1x2048 (token arg1 v32 c1 t))) := rfl

theorem pay5_eq (i : grid0.Coords) (arg1 v32 c1 : BitVec 32) (v25 : IVec S1x2048 32) (t : Fin (k0_t1_loop i).trips)
    (p a : Vec Ideal S1x2048 .f32) :
    k0_pay5 i arg1 v25 v32 c1 t p a
      = shapeCast S1x2048 (mulf (addf (F := Ideal) (φ := .f32) a p) (sitofp .f32 (extui 32 (k0_pay4 i arg1 v25 v32 c1 t a) natLt_1_32))) shapeCasts_S1x2048_S1x2048 := rfl

theorem sle_ofNat (x y : Nat) (hx : x < 2048) (hy : y < 2048) :
    (BitVec.ofNat 32 x).sle (BitVec.ofNat 32 y) = decide (x ≤ y) := by
  have h : ∀ z, z < 2048 → (BitVec.ofNat 32 z).toInt = z := fun z hz => by
    rw [BitVec.toInt_eq_toNat_of_lt] <;> rw [BitVec.toNat_ofNat] <;> omega
  unfold BitVec.sle
  rw [h x hx, h y hy, decide_eq_decide]
  omega

theorem sub_204 (T : Nat) (h : 204 ≤ T) : Scalar.subi (BitVec.ofNat 32 T) 204#32 = BitVec.ofNat 32 (T - 204) := by
  change BitVec.ofNat 32 T - BitVec.ofNat 32 204 = _
  exact (BitVec.ofNat_sub_ofNat_of_le T 204 (by norm_num) h)

theorem pay6_iff (i : grid0.Coords) (arg1 v32 c1 : BitVec 32) (v25 : IVec S1x2048 32) (t : Fin (k0_t1_loop i).trips)
    (a : Vec Ideal S1x2048 .f32) (hv : ∀ j : Fin 2048, v25 (ix2 0 j) = BitVec.ofNat 32 j.val)
    (hpos : ∃ j, 0 < row a j) (hfin : ∀ j, row a j ≠ ⊤) (T : Nat) (hT : T < 2048) (hT' : 204 ≤ T)
    (htok : token arg1 v32 c1 t = BitVec.ofNat 32 T) (j : Fin 2048) :
    k0_pay6 i arg1 v25 v32 c1 t a (ix2 0 j) = 1#1 ↔ j.val ≤ T ∧ (T ≤ j.val + 204 ∨ Evict.Kept (row a) j) := by
  have h4 := pay4_iff i arg1 v32 c1 v25 t a hv hpos hfin T hT htok j
  rw [pay6_eq, htok, sub_204 T hT']
  generalize k0_pay4 i arg1 v25 v32 c1 t a = b at h4
  have hb : b (ix2 0 j) = BitVec.ofBool (decide (b (ix2 0 j) = 1#1)) := by
    generalize b (ix2 0 j) = x
    revert x; decide
  pointwise
  rw [hv, hb]
  simp only [IntOp.cmpi, sle_ofNat _ _ j.isLt hT, sle_ofNat _ _ (show T - 204 < 2048 by omega) j.isLt, ofBool_andi, ofBool_ori]
  rw [show (1#1 : BitVec 1) = BitVec.ofBool true from rfl, BitVec.ofBool_eq_iff_eq]
  simp only [Bool.or_eq_true, Bool.and_eq_true, decide_eq_true_eq]
  rw [show BitVec.ofBool true = (1#1 : BitVec 1) from rfl, h4]
  constructor
  · rintro ⟨(h | h) | h, h'⟩
    · exact ⟨h', Or.inr h⟩
    · exact ⟨h', Or.inl (by omega)⟩
    · exact ⟨h', Or.inl (by omega)⟩
  · rintro ⟨h', h | h⟩
    · exact ⟨Or.inr (by omega), h'⟩
    · exact ⟨Or.inl (Or.inl h), h'⟩

theorem pay5_row (i : grid0.Coords) (arg1 v32 c1 : BitVec 32) (v25 : IVec S1x2048 32) (t : Fin (k0_t1_loop i).trips)
    (p a : Vec Ideal S1x2048 .f32) (hv : ∀ j : Fin 2048, v25 (ix2 0 j) = BitVec.ofNat 32 j.val)
    (hpos : ∃ j, 0 < row a j) (hfin : ∀ j, row a j ≠ ⊤) (T : Nat) (hT : T < 2048)
    (htok : token arg1 v32 c1 t = BitVec.ofNat 32 T) :
    row (k0_pay5 i arg1 v25 v32 c1 t p a) = Evict.next (row p) (row a) T := by
  funext j
  have h4 := pay4_iff i arg1 v32 c1 v25 t a hv hpos hfin T hT htok j
  unfold row
  rw [pay5_eq]
  generalize k0_pay4 i arg1 v25 v32 c1 t a = b at h4
  pointwise
  unfold Evict.next
  congr 1
  by_cases hk : Evict.Kept (row a) j ∨ j.val = T
  · rw [if_pos hk, h4.mpr hk]
    change (((BitVec.setWidth 32 (1#1)).toInt : ℝ) : EReal) = 1
    rw [show (BitVec.setWidth 32 (1#1 : BitVec 1)).toInt = 1 by decide]
    simp
  · have h0 : b (ix2 0 j) = 0#1 := by
      have : b (ix2 0 j) ≠ 1#1 := fun e => hk (h4.mp e)
      revert this
      generalize b (ix2 0 j) = x
      revert x; decide
    rw [if_neg hk, h0]
    change (((BitVec.setWidth 32 (0#1)).toInt : ℝ) : EReal) = 0
    rw [show (BitVec.setWidth 32 (0#1 : BitVec 1)).toInt = 0 by decide]
    simp

/-! ### One trip -/

section Trip

variable (𝒱 : Variants) (c : Dev nD) (bd : Option 𝒱.V) (i : grid0.Coords)
  (arg2 : Memref sig .tc .vmem S256x128 .f32) (harg2 : arg2.IsWhole) (arg3 : Memref sig .tc .vmem S2048x128 .f32) (harg3 : arg3.IsWhole)
  (arg4 : Memref sig .tc .vmem S2048x128 .f32) (harg4 : arg4.IsWhole) (arg5 : Memref sig .tc .vmem S256x128 .f32) (harg5 : arg5.IsWhole)
  (arg6 : Memref sig .tc .vmem S256x2048 .f32) (harg6 : arg6.IsWhole) (arg7 : Memref sig .tc .vmem S256x2048 .f32) (harg7 : arg7.IsWhole)
  (arg8 : Memref sig .tc .vmem S1x2048 .f32) (harg8 : arg8.IsWhole) (arg1 : BitVec 32) (v25 : IVec S1x2048 32) (v32 : BitVec 32)

/-- The row of the block a trip reads, as a one-row vector. -/
abbrev rowAt (m : Memref sig .tc .vmem S256x2048 .f32) (k : Fin (k0_t1_loop i).trips) (f : m.view.ty.Contents (Elt Ideal)) : Vec Ideal S1x2048 .f32 :=
  View.readAt (Elt Ideal) m.view (Rect.unit (s := S256x2048) (k0_off1 i k) S1x2048.size (k0_off1_inb i k)).toLoadRect f

/-- The accumulator a trip reads. -/
abbrev accAt (m : Memref sig .tc .vmem S1x2048 .f32) (f : m.view.ty.Contents (Elt Ideal)) : Vec Ideal S1x2048 .f32 :=
  View.readAt (Elt Ideal) m.view (Rect.unit (s := S1x2048) ![0, 0] S1x2048.size inb_S1x2048_S1x2048_0_0).toLoadRect f

/-- What one trip writes: the masked row and the accumulator. -/
theorem trip_eq (X7 : arg7.view.ty.Contents (Elt Ideal)) (k : Fin (k0_t1_loop i).trips)
    (f6 : arg6.view.ty.Contents (Elt Ideal)) (f8 : arg8.view.ty.Contents (Elt Ideal)) :
    tripL_k0_t1 (F := Ideal) 𝒱 c bd i arg2 harg2 arg3 harg3 arg4 harg4 arg5 harg5 arg6 harg6 arg7 harg7 arg8 harg8 arg1 v25 v32 X7 k f6 f8
      = ([⟨Rect.unit (s := S256x2048) (k0_off1 i k) S1x2048.size (k0_off1_inb i k),
          k0_pay1 (rowAt i arg6 k f6) (k0_pay6 i arg1 v25 v32 1#32 k (accAt arg8 f8)) (k0_pay7 (F := Ideal))⟩],
        [⟨Rect.unit (s := S1x2048) ![0, 0] S1x2048.size inb_S1x2048_S1x2048_0_0,
          k0_pay5 i arg1 v25 v32 1#32 k (rowAt i arg7 k X7) (accAt arg8 f8)⟩]) := by
  unfold tripL_k0_t1
  unfold trip_k0_t1
  rfl

theorem rowAt_apply (m : Memref sig .tc .vmem S256x2048 .f32) (k : Fin (k0_t1_loop i).trips) (f : m.view.ty.Contents (Elt Ideal))
    (r : Fin 256) (hr : r.val = lo (i 1).val + k.val) (j : Fin 2048) :
    rowAt i m k f (ix2 0 j) = m.view.read (Elt Ideal) f (ix2 r j) := by
  change m.view.read (Elt Ideal) f _ = _
  refine congrArg (m.view.read (Elt Ideal) f) (funext fun a => Fin.ext ?_)
  have e := off_eq i k
  fin_cases a
  · change k0_off1 i k 0 + 1 * 0 = r.val
    rw [e, hr]; rfl
  · change k0_off1 i k 1 + 1 * j.val = j.val
    rw [e]
    change 0 + 1 * j.val = j.val
    omega

theorem accAt_eq (m : Memref sig .tc .vmem S1x2048 .f32) (f : m.view.ty.Contents (Elt Ideal)) :
    accAt m f = m.view.read (Elt Ideal) f := View.readAt_full m.view f inb_S1x2048_S1x2048_0_0

theorem pay1_apply (x : Vec Ideal S1x2048 .f32) (b : IVec S1x2048 1) (j : Fin 2048) :
    k0_pay1 x b (k0_pay7 (F := Ideal)) (ix2 0 j) = if b (ix2 0 j) = 1#1 then x (ix2 0 j) else 0 := by
  pointwise [k0_pay1, k0_pay7]
  rfl

/-! ### The loop -/

variable (p : Fin 2048 → Heavy.Row)

/-- A block's row as a row of the array. -/
abbrev tok (r : Fin 256) : Fin 2048 := ⟨256 * (i 1).val + r.val, by have : (i 1).val < 8 := (i 1).isLt; omega⟩

open Classical in
/-- The block's scores after the rows from `lo` to `hi` are masked. -/
def maskedTo (hi : Nat) (s : Vec Ideal S256x2048 .f32) (r : Fin 256) (j : Fin 2048) : EReal :=
  if lo (i 1).val ≤ r.val ∧ r.val < hi then
    if Heavy.Keep p (tok i r) j then s (ix2 r j) else 0
  else s (ix2 r j)

theorem loop_value (hp : ∀ i j, ∃ x : ℝ, 0 < x ∧ p i j = x)
    (hv : ∀ j : Fin 2048, v25 (ix2 0 j) = BitVec.ofNat 32 j.val)
    (X7 : arg7.view.ty.Contents (Elt Ideal)) (G6 : arg6.view.ty.Contents (Elt Ideal)) (G8 : arg8.view.ty.Contents (Elt Ideal))
    (h7 : ∀ (r : Fin 256) (j : Fin 2048), arg7.view.read (Elt Ideal) X7 (ix2 r j) = p (tok i r) j)
    (h8 : row (arg8.view.read (Elt Ideal) G8) = Heavy.accs p (256 * (i 1).val + lo (i 1).val - 204))
    (k : Nat) (hk : k ≤ (k0_t1_loop i).trips) :
    let L := pb_k0_t1 (F := Ideal) 𝒱 c bd i arg2 harg2 arg3 harg3 arg4 harg4 arg5 harg5 arg6 harg6 arg7 harg7 arg8 harg8
      (BitVec.ofNat 32 (i 1).val) v25 (lbWord i) X7 G6 G8 k
    row (arg8.view.read (Elt Ideal) (arg8.view.writes (Elt Ideal) G8 L.2)) = Heavy.accs p (256 * (i 1).val + lo (i 1).val - 204 + k)
      ∧ ∀ (r : Fin 256) (j : Fin 2048), arg6.view.read (Elt Ideal) (arg6.view.writes (Elt Ideal) G6 L.1) (ix2 r j)
          = maskedTo i p (lo (i 1).val + k) (arg6.view.read (Elt Ideal) G6) r j := by
  have hJ : (i 1).val < 8 := (i 1).isLt
  have ht := trips_eq i
  induction k with
  | zero =>
    refine ⟨h8, fun r j => ?_⟩
    unfold maskedTo
    rw [if_neg (by omega)]
    rfl
  | succ k ih =>
    obtain ⟨ih8, ih6⟩ := ih (by omega)
    rw [pb_k0_t1_succ 𝒱 c bd i arg2 harg2 arg3 harg3 arg4 harg4 arg5 harg5 arg6 harg6 arg7 harg7 arg8 harg8
      (BitVec.ofNat 32 (i 1).val) v25 (lbWord i) X7 G6 G8 ⟨k, hk⟩, trip_eq]
    dsimp only
    generalize pb_k0_t1 (F := Ideal) 𝒱 c bd i arg2 harg2 arg3 harg3 arg4 harg4 arg5 harg5 arg6 harg6 arg7 harg7 arg8 harg8
      (BitVec.ofNat 32 (i 1).val) v25 (lbWord i) X7 G6 G8 k = L at ih6 ih8
    have hlo : 204 ≤ 256 * (i 1).val + lo (i 1).val := by unfold lo; omega
    have htr : lo (i 1).val + k < 256 := by unfold lo at *; omega
    have hg := Heavy.good_accs p hp (256 * (i 1).val + lo (i 1).val - 204 + k) (by omega)
    rw [← ih8] at hg
    have hpos : ∃ j, 0 < row (accAt arg8 (arg8.view.writes (Elt Ideal) G8 L.2)) j := by
      rw [accAt_eq]
      have : (Finset.univ.filter fun j => 0 < row (arg8.view.read (Elt Ideal) (arg8.view.writes (Elt Ideal) G8 L.2)) j).card = 204 := hg.card
      obtain ⟨j, hj⟩ := Finset.card_pos.mp (by rw [this]; omega)
      exact ⟨j, (Finset.mem_filter.mp hj).2⟩
    have hfin : ∀ j, row (accAt arg8 (arg8.view.writes (Elt Ideal) G8 L.2)) j ≠ ⊤ := by
      rw [accAt_eq]
      exact hg.finite
    have htok : token (BitVec.ofNat 32 (i 1).val) (lbWord i) 1#32 k = BitVec.ofNat 32 (256 * (i 1).val + (lo (i 1).val + k)) := token_eq i k
    have hacc : row (accAt arg8 (arg8.view.writes (Elt Ideal) G8 L.2)) = Heavy.accs p (256 * (i 1).val + lo (i 1).val - 204 + k) := by
      rw [accAt_eq]; exact ih8
    refine ⟨?_, fun r j => ?_⟩
    · have e : arg8.view.read (Elt Ideal) (arg8.view.writes (Elt Ideal) G8
          ([⟨Rect.unit (s := S1x2048) ![0, 0] S1x2048.size inb_S1x2048_S1x2048_0_0, k0_pay5 i (BitVec.ofNat 32 (i 1).val) v25 (lbWord i) 1#32 ⟨k, hk⟩
            (rowAt i arg7 ⟨k, hk⟩ X7) (accAt arg8 (arg8.view.writes (Elt Ideal) G8 L.2))⟩] ++ L.2))
          = k0_pay5 i (BitVec.ofNat 32 (i 1).val) v25 (lbWord i) 1#32 ⟨k, hk⟩ (rowAt i arg7 ⟨k, hk⟩ X7) (accAt arg8 (arg8.view.writes (Elt Ideal) G8 L.2)) :=
        View.read_writes_full ..
      refine (congrArg row e).trans ?_
      rw [pay5_row i _ _ 1#32 v25 ⟨k, hk⟩ (rowAt i arg7 ⟨k, hk⟩ X7) _ hv hpos hfin (256 * (i 1).val + (lo (i 1).val + k)) (by omega) htok, hacc]
      have e1 : row (rowAt i arg7 ⟨k, hk⟩ X7)
          = p ⟨(204 + (256 * (i 1).val + lo (i 1).val - 204 + k)) % 2048, Nat.mod_lt _ (by omega)⟩ := by
        funext j
        refine ((rowAt_apply i arg7 ⟨k, hk⟩ X7 ⟨lo (i 1).val + k, htr⟩ rfl j).trans (h7 _ j)).trans ?_
        refine congrArg (fun x => p x j) (Fin.ext ?_)
        change 256 * (i 1).val + (lo (i 1).val + k) = (204 + (256 * (i 1).val + lo (i 1).val - 204 + k)) % 2048
        omega
      have e2 : 256 * (i 1).val + (lo (i 1).val + k) = 204 + (256 * (i 1).val + lo (i 1).val - 204 + k) := by omega
      rw [e1, e2]
      exact (Heavy.accs_succ p _).symm
    · by_cases hr : r.val = lo (i 1).val + k
      · refine (View.read_writes_cons_rows_of_mem (d := ![256, 2048]) arg6.view G6 (o := lo (i 1).val + k) (k0_off1_inb i ⟨k, hk⟩) _ L.1 (ix2 r j)
          (ix2 0 j) (off_eq i ⟨k, hk⟩) (by exact hr) rfl).trans ?_
        rw [pay1_apply, rowAt_apply i arg6 ⟨k, hk⟩ _ r hr j, ih6]
        have h6 := pay6_iff i (BitVec.ofNat 32 (i 1).val) (lbWord i) 1#32 v25 ⟨k, hk⟩ _ hv hpos hfin (256 * (i 1).val + (lo (i 1).val + k)) (by omega) (by omega) htok j
        have hK : Heavy.Keep p (tok i r) j ↔ k0_pay6 i (BitVec.ofNat 32 (i 1).val) v25 (lbWord i) 1#32 ⟨k, hk⟩ (accAt arg8 (arg8.view.writes (Elt Ideal) G8 L.2)) (ix2 0 j) = 1#1 := by
          rw [h6, hacc]
          unfold Heavy.Keep
          have e1 : (tok i r).val = 256 * (i 1).val + (lo (i 1).val + k) := by rw [← hr]
          have e2 : 256 * (i 1).val + (lo (i 1).val + k) - 204 = 256 * (i 1).val + lo (i 1).val - 204 + k := by omega
          rw [e1, e2]
          have : 204 ≤ 256 * (i 1).val + (lo (i 1).val + k) := by omega
          exact and_congr_right fun _ => or_congr_right (and_iff_right this)
        rw [show maskedTo i p (lo (i 1).val + k) (arg6.view.read (Elt Ideal) G6) r j = arg6.view.read (Elt Ideal) G6 (ix2 r j) from
          if_neg (by omega)]
        refine Eq.trans ?_ (if_pos (by omega)).symm
        simp only [hK]
      · refine (View.read_writes_cons_rows_of_not_mem (d := ![256, 2048]) arg6.view G6 (o := lo (i 1).val + k) (W := 1) (k0_off1_inb i ⟨k, hk⟩) _ L.1 (ix2 r j)
          (off_eq i ⟨k, hk⟩) rfl (by change r.val < _ ∨ _ ≤ r.val; omega)).trans ?_
        rw [ih6]
        unfold maskedTo
        have : (lo (i 1).val ≤ r.val ∧ r.val < lo (i 1).val + k) ↔ (lo (i 1).val ≤ r.val ∧ r.val < lo (i 1).val + (k + 1)) := by omega
        simp only [this]

end Trip

end Cert.KernelIdeal.Pay

end
-- ==== Proof.KernelPay.lean ====
/-
  One block's payloads, read element by element: its scores, their softmax, the first block's masked rows and its
  accumulated row, and the block's result.
-/
module

public import proofs.«01_k».proof.Proof.KernelLoop

@[expose] public section

set_option maxRecDepth 16384

noncomputable section

namespace Cert.KernelIdeal.Pay

open Idealize.ShloMosaic Idealize.ShloMosaic.TcCoe Idealize.SL.Sem Cert.KernelIdeal Cert.KernelIdeal.Gen

theorem scale_eq : (Named.named κ "scale" 0x3DB504F3#32 : Ideal .f32) = (((Real.sqrt 128)⁻¹ : ℝ) : EReal) := rfl

variable (i : grid0.Coords) (Q K V : Fin 2048 → Fin 128 → EReal)

/-- The probabilities of a head, row by row. -/
abbrev prob (r : Fin 2048) : Heavy.Row := Heavy.soft (Heavy.score Q K r)

theorem pay13_apply (x0 : Vec Ideal S256x128 .f32) (x1 : Vec Ideal S2048x128 .f32)
    (h0 : ∀ r x, x0 (ix2 r x) = Q (tok i r) x) (h1 : ∀ j x, x1 (ix2 j x) = K j x) (r : Fin 256) (j : Fin 2048) :
    k0_pay13 x0 x1 (ix2 r j) = Heavy.score Q K (tok i r) j := by
  pointwise [k0_pay13]
  unfold Heavy.score
  simp only [h0, h1]
  rfl

theorem pay14_apply (x0 : Vec Ideal S256x128 .f32) (x1 : Vec Ideal S2048x128 .f32)
    (h0 : ∀ r x, x0 (ix2 r x) = Q (tok i r) x) (h1 : ∀ j x, x1 (ix2 j x) = K j x) (r : Fin 256) (j : Fin 2048) :
    k0_pay14 x0 x1 (ix2 r j) = Heavy.score Q K (tok i r) j := by
  rw [← pay13_apply i Q K x0 x1 h0 h1]
  unfold k0_pay14
  generalize k0_pay13 x0 x1 = s
  pointwise

theorem pay15_apply (x0 : Vec Ideal S256x128 .f32) (x1 : Vec Ideal S2048x128 .f32)
    (h0 : ∀ r x, x0 (ix2 r x) = Q (tok i r) x) (h1 : ∀ j x, x1 (ix2 j x) = K j x) (r : Fin 256) (j : Fin 2048) :
    k0_pay15 x0 x1 (ix2 r j) = prob Q K (tok i r) j := by
  have h := pay13_apply i Q K x0 x1 h0 h1
  unfold k0_pay15
  generalize k0_pay13 x0 x1 = s at h
  pointwise
  unfold prob Heavy.soft
  simp only [h]

theorem pay16_apply (x0 : Vec Ideal S256x128 .f32) (x1 : Vec Ideal S2048x128 .f32)
    (h0 : ∀ r x, x0 (ix2 r x) = Q (tok i r) x) (h1 : ∀ j x, x1 (ix2 j x) = K j x) (r : Fin 256) (j : Fin 2048) :
    k0_pay16 x0 x1 (ix2 r j) = prob Q K (tok i r) j := by
  rw [← pay15_apply i Q K x0 x1 h0 h1]
  unfold k0_pay16
  generalize k0_pay15 x0 x1 = s
  pointwise

theorem pay3_apply (s : Vec Ideal S256x2048 .f32) (x2 : Vec Ideal S2048x128 .f32) (a : Fin 256 → Heavy.Row)
    (hs : ∀ r j, s (ix2 r j) = a r j) (h2 : ∀ j x, x2 (ix2 j x) = V j x) (r : Fin 256) (d : Fin 128) :
    k0_pay3 s x2 (ix2 r d) = ∑ x, Heavy.soft (a r) x * V x d := by
  pointwise [k0_pay3]
  unfold Heavy.soft
  simp only [hs, h2]

theorem slt_ofNat (x y : Nat) (hx : x < 2048) (hy : y < 2048) :
    (BitVec.ofNat 32 x).slt (BitVec.ofNat 32 y) = decide (x < y) := by
  have h : ∀ z, z < 2048 → (BitVec.ofNat 32 z).toInt = z := fun z hz => by
    rw [BitVec.toInt_eq_toNat_of_lt] <;> rw [BitVec.toNat_ofNat] <;> omega
  rw [BitVec.slt_eq_decide, h x hx, h y hy, decide_eq_decide]
  omega

theorem word_row (r : Nat) : IntOp.addi (BitVec.ofNat 32 r) (Scalar.muli 0#32 256#32) = BitVec.ofNat 32 r := by
  change BitVec.ofNat 32 r + 0#32 * 256#32 = _
  rw [BitVec.zero_mul, BitVec.add_zero]

theorem slt_204 (x : Nat) (hx : x < 2048) : (BitVec.ofNat 32 x).slt 204#32 = decide (x < 204) :=
  slt_ofNat x 204 hx (by norm_num)

theorem not_bool (b : Bool) : IntOp.xori (BitVec.ofBool b) 1#1 = BitVec.ofBool (!b) := by cases b <;> rfl

/-- The first block's scores with its first 204 rows masked to the columns not later than the row. -/
theorem pay19_apply (x0 : Vec Ideal S256x128 .f32) (x1 : Vec Ideal S2048x128 .f32)
    (h0 : ∀ r x, x0 (ix2 r x) = Q (tok i r) x) (h1 : ∀ j x, x1 (ix2 j x) = K j x) (hi : (i 1).val = 0) (r : Fin 256) (j : Fin 2048) :
    k0_pay19 i x0 x1 (ix2 r j) = if j.val ≤ r.val ∨ 204 ≤ r.val then Heavy.score Q K (tok i r) j else 0 := by
  have h := pay13_apply i Q K x0 x1 h0 h1 r j
  unfold k0_pay19
  generalize k0_pay13 x0 x1 = s at h
  pointwise [k0_pay17, k0_pay18]
  rw [h, hi, word_row r.val]
  simp only [IntOp.cmpi, sle_ofNat _ _ j.isLt (show r.val < 2048 by omega), slt_204 _ (show r.val < 2048 by omega), ofBool_ori, not_bool]
  change (if BitVec.ofBool _ = 1#1 then _ else _) = _
  rw [show (1#1 : BitVec 1) = BitVec.ofBool true from rfl]
  simp only [BitVec.ofBool_eq_iff_eq, Bool.or_eq_true, Bool.not_eq_true', decide_eq_true_eq, decide_eq_false_iff_not, not_lt]

theorem pay20_row (x0 : Vec Ideal S256x128 .f32) (x1 : Vec Ideal S2048x128 .f32) (a : Vec Ideal S1x2048 .f32)
    (h0 : ∀ r x, x0 (ix2 r x) = Q (tok i r) x) (h1 : ∀ j x, x1 (ix2 j x) = K j x) (ha : ∀ j : Fin 2048, a (ix2 0 j) = 0) (hi : (i 1).val = 0) :
    row (k0_pay20 i x0 x1 a) = Heavy.start (prob Q K) := by
  funext j
  have h := fun r => pay15_apply i Q K x0 x1 h0 h1 r j
  unfold row k0_pay20
  generalize k0_pay15 x0 x1 = s at h
  pointwise [k0_pay18]
  rw [ha]
  have e : ∀ x : Fin 256, Scalar.select (IntOp.cmpi CmpIPredicate.slt (k0_pay17 i (ix2 x j)) 204#32) (prob Q K (tok i x) j) (0 : EReal)
      = if x.val < 204 then prob Q K (tok i x) j else 0 := fun x => by
    pointwise [k0_pay17]
    rw [hi, word_row x.val]
    simp only [IntOp.cmpi, slt_204 _ (show x.val < 2048 by omega)]
    change (if BitVec.ofBool _ = 1#1 then _ else _) = _
    rw [show (1#1 : BitVec 1) = BitVec.ofBool true from rfl]
    simp only [BitVec.ofBool_eq_iff_eq, decide_eq_true_eq]
  simp only [h, e]
  have es : ∑ x : Fin 256, (if x.val < 204 then prob Q K (tok i x) j else 0) = ∑ x : Fin 204, prob Q K ⟨x.val, by omega⟩ j := by
    refine (Fin.sum_univ_add (a := 204) (b := 52) _).trans ?_
    have z : ∑ x : Fin 52, (if (Fin.natAdd 204 x).val < 204 then prob Q K (tok i (Fin.natAdd 204 x)) j else 0) = 0 :=
      Finset.sum_eq_zero fun x _ => if_neg (by rw [Fin.val_natAdd]; omega)
    rw [z, add_zero]
    refine Finset.sum_congr rfl fun x _ => ?_
    rw [if_pos (by rw [Fin.val_castAdd]; exact x.isLt)]
    refine congrArg (fun r => prob Q K r j) (Fin.ext ?_)
    change 256 * (i 1).val + x.val = x.val
    rw [hi]; omega
  rw [es]
  simp only [IntOp.cmpi, slt_204 _ j.isLt, zero_add]
  unfold Heavy.start
  by_cases hj : j.val < 204
  · rw [if_pos hj, decide_eq_true hj]
    change _ * (((BitVec.setWidth 32 (1#1)).toInt : ℝ) : EReal) = _
    rw [show (BitVec.setWidth 32 (1#1 : BitVec 1)).toInt = 1 by decide]
    simp
  · rw [if_neg hj, decide_eq_false hj]
    change _ * (((BitVec.setWidth 32 (0#1)).toInt : ℝ) : EReal) = _
    rw [show (BitVec.setWidth 32 (0#1 : BitVec 1)).toInt = 0 by decide]
    simp

end Cert.KernelIdeal.Pay

end
-- ==== Proof.KernelBlock.lean ====
/-
  What one block leaves: its rows of the head's result, and the accumulated row after its last row. The first block of
  a head starts the accumulated row itself; a later block goes on from what the block before left.
-/
module

public import proofs.«01_k».proof.Proof.KernelPay

@[expose] public section

set_option maxRecDepth 16384

noncomputable section

namespace Cert.KernelIdeal.Pay

open Idealize.ShloMosaic Idealize.ShloMosaic.TcCoe Idealize.SL.Sem Cert.KernelIdeal Cert.KernelIdeal.Gen

/-- The loop over what is left of a block after whole steps of one has no trip. -/
theorem trips2_eq (i : grid0.Coords) : (k0_t2_loop i).trips = 0 := by
  have h : (i 1).val < 8 := (i 1).isLt
  unfold k0_t2_loop
  simp only
  generalize (i 1).val = J at h
  interval_cases J <;> decide

theorem first_block (i : grid0.Coords) (h : cond0_0 i) : (i 1).val = 0 := by
  have h8 : (i 1).val < 8 := (i 1).isLt
  unfold cond0_0 at h
  generalize (i 1).val = J at h h8
  interval_cases J <;> first | rfl | exact absurd h (by decide)

theorem later_block (i : grid0.Coords) (h : ¬ cond0_0 i) : 1 ≤ (i 1).val := by
  by_contra h0
  refine h ?_
  unfold cond0_0
  rw [show (i 1).val = 0 by omega]
  decide

/-- The columns' numbers, as the kernel lists them. -/
abbrev cols : IVec S1x2048 32 := iota Kind.tc S1x2048 32 [1] iota_S1x2048_d1_w32

theorem cols_apply (j : Fin 2048) : cols (ix2 0 j) = BitVec.ofNat 32 j.val := by
  pointwise [cols]

section Block

variable (c : Dev nD) (i : grid0.Coords)
  (arg2 : Memref sig .tc .vmem S256x128 .f32) (harg2 : arg2.IsWhole) (arg3 : Memref sig .tc .vmem S2048x128 .f32) (harg3 : arg3.IsWhole)
  (arg4 : Memref sig .tc .vmem S2048x128 .f32) (harg4 : arg4.IsWhole) (arg5 : Memref sig .tc .vmem S256x128 .f32) (harg5 : arg5.IsWhole)
  (arg6 : Memref sig .tc .vmem S256x2048 .f32) (harg6 : arg6.IsWhole) (arg7 : Memref sig .tc .vmem S256x2048 .f32) (harg7 : arg7.IsWhole)
  (arg8 : Memref sig .tc .vmem S1x2048 .f32) (harg8 : arg8.IsWhole)

/-- What the loop writes in all. -/
abbrev loopL (X7 : arg7.view.ty.Contents (Elt Ideal)) (G6 : arg6.view.ty.Contents (Elt Ideal)) (G8 : arg8.view.ty.Contents (Elt Ideal)) :=
  pb_k0_t1 (F := Ideal) Variants.none c none i arg2 harg2 arg3 harg3 arg4 harg4 arg5 harg5 arg6 harg6 arg7 harg7 arg8 harg8
    (BitVec.ofNat 32 (i 1).val) cols (lbWord i) X7 G6 G8 (k0_t1_loop i).trips

theorem loop2_eq (arg1 : BitVec 32) (v25 : IVec S1x2048 32) (v37 : BitVec 32) (X7 : arg7.view.ty.Contents (Elt Ideal)) (G6 : arg6.view.ty.Contents (Elt Ideal))
    (G8 : arg8.view.ty.Contents (Elt Ideal)) (n : Nat) (hn : n = 0) :
    pb_k0_t2 (F := Ideal) Variants.none c none i arg2 harg2 arg3 harg3 arg4 harg4 arg5 harg5 arg6 harg6 arg7 harg7 arg8 harg8
      arg1 v25 v37 X7 G6 G8 n = ([], []) := by
  subst hn; rfl

variable (x0 : Vec Ideal S256x128 .f32) (x1 : Vec Ideal S2048x128 .f32) (x2 : Vec Ideal S2048x128 .f32) (xs : Vec Ideal S1x2048 .f32)

abbrev blkQ : Vec Ideal S256x128 .f32 :=
  View.readAt (Elt Ideal) arg2.view (Rect.unit (s := S256x128) ![0, 0] S256x128.size inb_S256x128_S256x128_0_0).toLoadRect (harg2.unread x0)
abbrev blkK : Vec Ideal S2048x128 .f32 :=
  View.readAt (Elt Ideal) arg3.view (Rect.unit (s := S2048x128) ![0, 0] S2048x128.size inb_S2048x128_S2048x128_0_0).toLoadRect (harg3.unread x1)
abbrev blkV : Vec Ideal S2048x128 .f32 :=
  View.readAt (Elt Ideal) arg4.view (Rect.unit (s := S2048x128) ![0, 0] S2048x128.size inb_S2048x128_S2048x128_0_0).toLoadRect (harg4.unread x2)

theorem blkQ_eq : blkQ arg2 harg2 x0 = x0 := (View.readAt_full arg2.view _ inb_S256x128_S256x128_0_0).trans (harg2.read_unread x0)
theorem blkK_eq : blkK arg3 harg3 x1 = x1 := (View.readAt_full arg3.view _ inb_S2048x128_S2048x128_0_0).trans (harg3.read_unread x1)
theorem blkV_eq : blkV arg4 harg4 x2 = x2 := (View.readAt_full arg4.view _ inb_S2048x128_S2048x128_0_0).trans (harg4.read_unread x2)

/-! ### From the state before the loop -/

variable (Q K V : Fin 2048 → Fin 128 → EReal)

open Classical in
/-- The scores before the loop: the rows before the loop's first are masked already. -/
def Before (s : Vec Ideal S256x2048 .f32) : Prop :=
  ∀ (r : Fin 256) (j : Fin 2048), s (ix2 r j)
    = if lo (i 1).val ≤ r.val then Heavy.score Q K (tok i r) j else Heavy.maskedScore Q K (tok i r) j

theorem after_scores (hQ : ∀ i x, ∃ r : ℝ, Q i x = r) (hK : ∀ i x, ∃ r : ℝ, K i x = r)
    (X7 : arg7.view.ty.Contents (Elt Ideal)) (G6 : arg6.view.ty.Contents (Elt Ideal)) (G8 : arg8.view.ty.Contents (Elt Ideal))
    (h7 : ∀ (r : Fin 256) (j : Fin 2048), arg7.view.read (Elt Ideal) X7 (ix2 r j) = prob Q K (tok i r) j)
    (h8 : row (arg8.view.read (Elt Ideal) G8) = Heavy.accs (prob Q K) (256 * (i 1).val + lo (i 1).val - 204))
    (h6 : Before i Q K (arg6.view.read (Elt Ideal) G6)) (r : Fin 256) (j : Fin 2048) :
    arg6.view.read (Elt Ideal) (arg6.view.writes (Elt Ideal) G6
      (loopL c i arg2 harg2 arg3 harg3 arg4 harg4 arg5 harg5 arg6 harg6 arg7 harg7 arg8 harg8 X7 G6 G8).1) (ix2 r j) = Heavy.maskedScore Q K (tok i r) j := by
  have h := (loop_value Variants.none c none i arg2 harg2 arg3 harg3 arg4 harg4 arg5 harg5 arg6 harg6 arg7 harg7 arg8 harg8 cols (prob Q K)
    (fun a b => Heavy.soft_real _ (Heavy.score_real Q K hQ hK a) b) cols_apply X7 G6 G8 h7 h8 (k0_t1_loop i).trips le_rfl).2 r j
  refine h.trans ?_
  have e : lo (i 1).val + (k0_t1_loop i).trips = 256 := by rw [trips_eq]; unfold lo; omega
  rw [e]
  unfold maskedTo
  rw [h6]
  by_cases hr : lo (i 1).val ≤ r.val
  · rw [if_pos ⟨hr, r.isLt⟩, if_pos hr]
    rfl
  · rw [if_neg (fun hh => hr hh.1), if_neg hr]

theorem after_acc (hQ : ∀ i x, ∃ r : ℝ, Q i x = r) (hK : ∀ i x, ∃ r : ℝ, K i x = r)
    (X7 : arg7.view.ty.Contents (Elt Ideal)) (G6 : arg6.view.ty.Contents (Elt Ideal)) (G8 : arg8.view.ty.Contents (Elt Ideal))
    (h7 : ∀ (r : Fin 256) (j : Fin 2048), arg7.view.read (Elt Ideal) X7 (ix2 r j) = prob Q K (tok i r) j)
    (h8 : row (arg8.view.read (Elt Ideal) G8) = Heavy.accs (prob Q K) (256 * (i 1).val + lo (i 1).val - 204)) :
    row (arg8.view.read (Elt Ideal) (arg8.view.writes (Elt Ideal) G8
      (loopL c i arg2 harg2 arg3 harg3 arg4 harg4 arg5 harg5 arg6 harg6 arg7 harg7 arg8 harg8 X7 G6 G8).2)) = Heavy.accs (prob Q K) (256 * (i 1).val + 52) := by
  have h := (loop_value Variants.none c none i arg2 harg2 arg3 harg3 arg4 harg4 arg5 harg5 arg6 harg6 arg7 harg7 arg8 harg8 cols (prob Q K)
    (fun a b => Heavy.soft_real _ (Heavy.score_real Q K hQ hK a) b) cols_apply X7 G6 G8 h7 h8 (k0_t1_loop i).trips le_rfl).1
  refine h.trans (congrArg _ ?_)
  rw [trips_eq]; unfold lo; omega

/-! ### The two cases -/

/-- What a buffer holds after one store of the whole of it. -/
theorem read_store6 (f : arg6.view.ty.Contents (Elt Ideal)) (w : Vec Ideal S256x2048 .f32) (L : List (View.Piece (Elt Ideal) S256x2048 .f32)) :
    arg6.view.read (Elt Ideal) (arg6.view.writes (Elt Ideal) f
      ((⟨Rect.unit (s := S256x2048) ![0, 0] S256x2048.size inb_S256x2048_S256x2048_0_0, w⟩ : View.Piece (Elt Ideal) S256x2048 .f32) :: L)) = w :=
  View.read_writes_full ..

theorem read_store8 (f : arg8.view.ty.Contents (Elt Ideal)) (w : Vec Ideal S1x2048 .f32) (L : List (View.Piece (Elt Ideal) S1x2048 .f32)) :
    arg8.view.read (Elt Ideal) (arg8.view.writes (Elt Ideal) f
      ((⟨Rect.unit (s := S1x2048) ![0, 0] S1x2048.size inb_S1x2048_S1x2048_0_0, w⟩ : View.Piece (Elt Ideal) S1x2048 .f32) :: L)) = w :=
  View.read_writes_full ..

/-- The scores buffer's list of writes before the loop, in the first block and in a later one. -/
abbrev L6A : List (View.Piece (Elt Ideal) S256x2048 .f32) := kernelRun0_A.sl.HS0_2 c i arg2 harg2 arg3 harg3 x0 x1
abbrev L6B : List (View.Piece (Elt Ideal) S256x2048 .f32) := kernelRun0_B.sl.HS0_1 c arg2 harg2 arg3 harg3 x0 x1
abbrev X7A := arg7.view.writes (Elt Ideal) arg7.view.junk (kernelRun0_A.sl.HS1_1 c arg2 harg2 arg3 harg3 x0 x1)
abbrev X7B := arg7.view.writes (Elt Ideal) arg7.view.junk (kernelRun0_B.sl.HS1_1 c arg2 harg2 arg3 harg3 x0 x1)
abbrev L8A : List (View.Piece (Elt Ideal) S1x2048 .f32) := kernelRun0_A.sl.HS2_2 c i arg2 harg2 arg3 harg3 arg8 x0 x1

theorem v38_A : kernelRun0_A.sl.v38 (F := Ideal) c i arg2 harg2 arg3 harg3 arg4 harg4 arg5 harg5 arg6 harg6 arg7 harg7 arg8 harg8 x0 x1
    = arg6.view.read (Elt Ideal) (arg6.view.writes (Elt Ideal) (arg6.view.writes (Elt Ideal) arg6.view.junk (L6A c i arg2 harg2 arg3 harg3 x0 x1))
      (loopL c i arg2 harg2 arg3 harg3 arg4 harg4 arg5 harg5 arg6 harg6 arg7 harg7 arg8 harg8 (X7A c arg2 harg2 arg3 harg3 arg7 x0 x1)
        (arg6.view.writes (Elt Ideal) arg6.view.junk (L6A c i arg2 harg2 arg3 harg3 x0 x1))
        (arg8.view.writes (Elt Ideal) arg8.view.junk (L8A c i arg2 harg2 arg3 harg3 arg8 x0 x1))).1) := by
  unfold kernelRun0_A.sl.v38
  refine (View.readAt_full arg6.view _ inb_S256x2048_S256x2048_0_0).trans ?_
  rw [← View.writes_append]
  rw [loop2_eq c i arg2 harg2 arg3 harg3 arg4 harg4 arg5 harg5 arg6 harg6 arg7 harg7 arg8 harg8 _ _ _ _ _ _ _ (trips2_eq i)]
  dsimp only [kernelRun0_A.sl.v25, kernelRun0_A.sl.v32, kernelRun0_A.sl.v31, kernelRun0_A.sl.v26, List.nil_append]

theorem v38_B : kernelRun0_B.sl.v38 (F := Ideal) c i arg2 harg2 arg3 harg3 arg4 harg4 arg5 harg5 arg6 harg6 arg7 harg7 arg8 harg8 x0 x1 xs
    = arg6.view.read (Elt Ideal) (arg6.view.writes (Elt Ideal) (arg6.view.writes (Elt Ideal) arg6.view.junk (L6B c arg2 harg2 arg3 harg3 x0 x1))
      (loopL c i arg2 harg2 arg3 harg3 arg4 harg4 arg5 harg5 arg6 harg6 arg7 harg7 arg8 harg8 (X7B c arg2 harg2 arg3 harg3 arg7 x0 x1)
        (arg6.view.writes (Elt Ideal) arg6.view.junk (L6B c arg2 harg2 arg3 harg3 x0 x1)) (harg8.unread xs)).1) := by
  unfold kernelRun0_B.sl.v38
  refine (View.readAt_full arg6.view _ inb_S256x2048_S256x2048_0_0).trans ?_
  rw [← View.writes_append]
  rw [loop2_eq c i arg2 harg2 arg3 harg3 arg4 harg4 arg5 harg5 arg6 harg6 arg7 harg7 arg8 harg8 _ _ _ _ _ _ _ (trips2_eq i)]
  dsimp only [kernelRun0_B.sl.v25, kernelRun0_B.sl.v32, kernelRun0_B.sl.v31, kernelRun0_B.sl.v26, List.nil_append]

theorem out_A (hc0 : cond0_0 i) (hc1 : cond0_1 i) :
    out0_A_3 (F := Ideal) c i arg2 harg2 arg3 harg3 arg4 harg4 arg5 harg5 arg6 harg6 arg7 harg7 arg8 harg8 hc0 hc1 x0 x1 x2
      = k0_pay3 (kernelRun0_A.sl.v38 (F := Ideal) c i arg2 harg2 arg3 harg3 arg4 harg4 arg5 harg5 arg6 harg6 arg7 harg7 arg8 harg8 x0 x1) (blkV arg4 harg4 x2) := by
  unfold out0_A_3; unfold kernelRun0_A; dsimp only
  exact View.read_writes_full ..

theorem out_B (hc0 : ¬ cond0_0 i) (hc1 : ¬ cond0_1 i) :
    out0_B_3 (F := Ideal) c i arg2 harg2 arg3 harg3 arg4 harg4 arg5 harg5 arg6 harg6 arg7 harg7 arg8 harg8 hc0 hc1 x0 x1 x2 xs
      = k0_pay3 (kernelRun0_B.sl.v38 (F := Ideal) c i arg2 harg2 arg3 harg3 arg4 harg4 arg5 harg5 arg6 harg6 arg7 harg7 arg8 harg8 x0 x1 xs) (blkV arg4 harg4 x2) := by
  unfold out0_B_3; unfold kernelRun0_B; dsimp only
  exact View.read_writes_full ..

theorem sout_B (hc0 : ¬ cond0_0 i) (hc1 : ¬ cond0_1 i) :
    sout0_B_2 (F := Ideal) c i arg2 harg2 arg3 harg3 arg4 harg4 arg5 harg5 arg6 harg6 arg7 harg7 arg8 harg8 hc0 hc1 x0 x1 x2 xs
      = arg8.view.read (Elt Ideal) (arg8.view.writes (Elt Ideal) (harg8.unread xs)
        (loopL c i arg2 harg2 arg3 harg3 arg4 harg4 arg5 harg5 arg6 harg6 arg7 harg7 arg8 harg8 (X7B c arg2 harg2 arg3 harg3 arg7 x0 x1)
          (arg6.view.writes (Elt Ideal) arg6.view.junk (L6B c arg2 harg2 arg3 harg3 x0 x1)) (harg8.unread xs)).2) := by
  unfold sout0_B_2; unfold kernelRun0_B; dsimp only
  rw [loop2_eq c i arg2 harg2 arg3 harg3 arg4 harg4 arg5 harg5 arg6 harg6 arg7 harg7 arg8 harg8 _ _ _ _ _ _ _ (trips2_eq i)]
  dsimp only [kernelRun0_B.sl.v25, kernelRun0_B.sl.v32, kernelRun0_B.sl.v31, kernelRun0_B.sl.v26, List.nil_append]

theorem sout_A (hc0 : cond0_0 i) (hc1 : cond0_1 i) :
    sout0_A_2 (F := Ideal) c i arg2 harg2 arg3 harg3 arg4 harg4 arg5 harg5 arg6 harg6 arg7 harg7 arg8 harg8 hc0 hc1 x0 x1 x2
      = VS0_2.read (Elt Ideal) (VS0_2.writes (Elt Ideal) VS0_2.junk
        ((loopL c i arg2 harg2 arg3 harg3 arg4 harg4 arg5 harg5 arg6 harg6 arg7 harg7 arg8 harg8 (X7A c arg2 harg2 arg3 harg3 arg7 x0 x1)
          (arg6.view.writes (Elt Ideal) arg6.view.junk (L6A c i arg2 harg2 arg3 harg3 x0 x1))
          (arg8.view.writes (Elt Ideal) arg8.view.junk (L8A c i arg2 harg2 arg3 harg3 arg8 x0 x1))).2 ++ L8A c i arg2 harg2 arg3 harg3 arg8 x0 x1)) := by
  unfold sout0_A_2; unfold kernelRun0_A; dsimp only
  rw [loop2_eq c i arg2 harg2 arg3 harg3 arg4 harg4 arg5 harg5 arg6 harg6 arg7 harg7 arg8 harg8 _ _ _ _ _ _ _ (trips2_eq i)]
  dsimp only [kernelRun0_A.sl.v25, kernelRun0_A.sl.v32, kernelRun0_A.sl.v31, kernelRun0_A.sl.v26, List.nil_append]

/-! ### Their values -/

variable (hQ : ∀ i x, ∃ r : ℝ, Q i x = r) (hK : ∀ i x, ∃ r : ℝ, K i x = r)
  (h0 : ∀ r x, x0 (ix2 r x) = Q (tok i r) x) (h1 : ∀ j x, x1 (ix2 j x) = K j x) (h2 : ∀ j x, x2 (ix2 j x) = V j x)

include h0 h1 in
theorem read_X7A (r : Fin 256) (j : Fin 2048) :
    arg7.view.read (Elt Ideal) (X7A c arg2 harg2 arg3 harg3 arg7 x0 x1) (ix2 r j) = prob Q K (tok i r) j := by
  refine (congrFun (read_store6 arg7 arg7.view.junk (k0_pay16 (blkQ arg2 harg2 x0) (blkK arg3 harg3 x1)) []) (ix2 r j)).trans ?_
  rw [blkQ_eq, blkK_eq]
  exact pay16_apply i Q K x0 x1 h0 h1 r j

include h0 h1 in
theorem read_X7B (r : Fin 256) (j : Fin 2048) :
    arg7.view.read (Elt Ideal) (X7B c arg2 harg2 arg3 harg3 arg7 x0 x1) (ix2 r j) = prob Q K (tok i r) j := by
  refine (congrFun (read_store6 arg7 arg7.view.junk (k0_pay16 (blkQ arg2 harg2 x0) (blkK arg3 harg3 x1)) []) (ix2 r j)).trans ?_
  rw [blkQ_eq, blkK_eq]
  exact pay16_apply i Q K x0 x1 h0 h1 r j

include h0 h1 in
theorem before_A (hi : (i 1).val = 0) :
    Before i Q K (arg6.view.read (Elt Ideal) (arg6.view.writes (Elt Ideal) arg6.view.junk (L6A c i arg2 harg2 arg3 harg3 x0 x1))) := by
  intro r j
  refine (congrFun (read_store6 arg6 arg6.view.junk (k0_pay19 i (blkQ arg2 harg2 x0) (blkK arg3 harg3 x1)) _) (ix2 r j)).trans ?_
  rw [blkQ_eq, blkK_eq, pay19_apply i Q K x0 x1 h0 h1 hi]
  have hlo : lo (i 1).val = 204 := by unfold lo; omega
  by_cases hr : 204 ≤ r.val
  · rw [if_pos (Or.inr hr), if_pos (by omega)]
  · rw [if_neg (show ¬ lo (i 1).val ≤ r.val by omega)]
    have ht : (tok i r).val = r.val := by change 256 * (i 1).val + r.val = r.val; omega
    have hk : Heavy.Keep (prob Q K) (tok i r) j ↔ (j.val ≤ r.val ∨ 204 ≤ r.val) := by
      unfold Heavy.Keep
      rw [ht]
      constructor
      · rintro ⟨h, -⟩
        exact Or.inl h
      · intro h
        have h' : j.val ≤ r.val := by omega
        exact ⟨h', Or.inl (by omega)⟩
    unfold Heavy.maskedScore
    by_cases h : j.val ≤ r.val ∨ 204 ≤ r.val
    · rw [if_pos h, if_pos (hk.mpr h)]
    · rw [if_neg h, if_neg (fun h' => h (hk.mp h'))]

include h0 h1 in
theorem before_B (hi : 1 ≤ (i 1).val) :
    Before i Q K (arg6.view.read (Elt Ideal) (arg6.view.writes (Elt Ideal) arg6.view.junk (L6B c arg2 harg2 arg3 harg3 x0 x1))) := by
  intro r j
  refine (congrFun (read_store6 arg6 arg6.view.junk (k0_pay14 (blkQ arg2 harg2 x0) (blkK arg3 harg3 x1)) _) (ix2 r j)).trans ?_
  rw [blkQ_eq, blkK_eq, pay14_apply i Q K x0 x1 h0 h1, if_pos (by unfold lo; omega)]

include h0 h1 in
theorem acc_A (hi : (i 1).val = 0) :
    row (arg8.view.read (Elt Ideal) (arg8.view.writes (Elt Ideal) arg8.view.junk (L8A c i arg2 harg2 arg3 harg3 arg8 x0 x1)))
      = Heavy.accs (prob Q K) (256 * (i 1).val + lo (i 1).val - 204) := by
  refine (congrArg row (read_store8 arg8 arg8.view.junk (k0_pay20 i (blkQ arg2 harg2 x0) (blkK arg3 harg3 x1) (kernelRun0_A.sl.v70 c arg8)) _)).trans ?_
  rw [blkQ_eq, blkK_eq, pay20_row i Q K x0 x1 _ h0 h1 ?_ hi]
  · rw [hi]; rfl
  · intro j
    have e : kernelRun0_A.sl.v70 (F := Ideal) c arg8 = k0_pay12 (F := Ideal) := by
      unfold kernelRun0_A.sl.v70
      exact (View.readAt_full arg8.view _ inb_S1x2048_S1x2048_0_0).trans (read_store8 arg8 arg8.view.junk (k0_pay12 (F := Ideal)) [])
    rw [e]
    pointwise [k0_pay12]

include hQ hK h0 h1 h2 in
theorem value_A (hc0 : cond0_0 i) (hc1 : cond0_1 i) (r : Fin 256) (d : Fin 128) :
    out0_A_3 (F := Ideal) c i arg2 harg2 arg3 harg3 arg4 harg4 arg5 harg5 arg6 harg6 arg7 harg7 arg8 harg8 hc0 hc1 x0 x1 x2 (ix2 r d)
      = Heavy.out Q K V (tok i r) d := by
  have hi := first_block i hc0
  rw [out_A, blkV_eq, v38_A]
  exact pay3_apply V _ x2 (fun r => Heavy.maskedScore Q K (tok i r))
    (after_scores c i arg2 harg2 arg3 harg3 arg4 harg4 arg5 harg5 arg6 harg6 arg7 harg7 arg8 harg8 Q K hQ hK _ _ _
      (read_X7A c i arg2 harg2 arg3 harg3 arg7 x0 x1 Q K h0 h1) (acc_A c i arg2 harg2 arg3 harg3 arg8 x0 x1 Q K h0 h1 hi)
      (before_A c i arg2 harg2 arg3 harg3 arg6 x0 x1 Q K h0 h1 hi)) h2 r d

include hQ hK h0 h1 in
theorem carry_A (hc0 : cond0_0 i) (hc1 : cond0_1 i) :
    row (sout0_A_2 (F := Ideal) c i arg2 harg2 arg3 harg3 arg4 harg4 arg5 harg5 arg6 harg6 arg7 harg7 arg8 harg8 hc0 hc1 x0 x1 x2)
      = Heavy.accs (prob Q K) (256 * (i 1).val + 52) := by
  have hi := first_block i hc0
  rw [sout_A, ← after_acc c i arg2 harg2 arg3 harg3 arg4 harg4 arg5 harg5 arg6 harg6 arg7 harg7 arg8 harg8 Q K hQ hK _
    (arg6.view.writes (Elt Ideal) arg6.view.junk (L6A c i arg2 harg2 arg3 harg3 x0 x1)) _
      (read_X7A c i arg2 harg2 arg3 harg3 arg7 x0 x1 Q K h0 h1) (acc_A c i arg2 harg2 arg3 harg3 arg8 x0 x1 Q K h0 h1 hi), ← View.writes_append]
  refine congrArg row (funext fun y => View.read_writes_apply_eq _ _ _ _ y _ ?_)
  refine ⟨⟨Rect.unit (s := S1x2048) ![0, 0] S1x2048.size inb_S1x2048_S1x2048_0_0,
    k0_pay20 i (blkQ arg2 harg2 x0) (blkK arg3 harg3 x1) (kernelRun0_A.sl.v70 c arg8)⟩, List.mem_append_right _ (List.mem_cons_self ..), ?_⟩
  rw [Rect.mem_set_unit]
  intro a
  fin_cases a
  · exact ⟨Nat.zero_le _, by have := (y 0).isLt; simpa using this⟩
  · exact ⟨Nat.zero_le _, by have := (y 1).isLt; simpa using this⟩

variable (hxs : row xs = Heavy.accs (prob Q K) (256 * (i 1).val - 204))

include hxs in
theorem acc_B (hi : 1 ≤ (i 1).val) :
    row (arg8.view.read (Elt Ideal) (harg8.unread xs)) = Heavy.accs (prob Q K) (256 * (i 1).val + lo (i 1).val - 204) := by
  rw [harg8.read_unread, hxs]
  congr 1
  unfold lo; omega

include hQ hK h0 h1 h2 hxs in
theorem value_B (hc0 : ¬ cond0_0 i) (hc1 : ¬ cond0_1 i) (r : Fin 256) (d : Fin 128) :
    out0_B_3 (F := Ideal) c i arg2 harg2 arg3 harg3 arg4 harg4 arg5 harg5 arg6 harg6 arg7 harg7 arg8 harg8 hc0 hc1 x0 x1 x2 xs (ix2 r d)
      = Heavy.out Q K V (tok i r) d := by
  have hi := later_block i hc0
  rw [out_B, blkV_eq, v38_B]
  exact pay3_apply V _ x2 (fun r => Heavy.maskedScore Q K (tok i r))
    (after_scores c i arg2 harg2 arg3 harg3 arg4 harg4 arg5 harg5 arg6 harg6 arg7 harg7 arg8 harg8 Q K hQ hK _ _ _
      (read_X7B c i arg2 harg2 arg3 harg3 arg7 x0 x1 Q K h0 h1) (acc_B i arg8 harg8 xs Q K hxs hi)
      (before_B c i arg2 harg2 arg3 harg3 arg6 x0 x1 Q K h0 h1 hi)) h2 r d

include hQ hK h0 h1 hxs in
theorem carry_B (hc0 : ¬ cond0_0 i) (hc1 : ¬ cond0_1 i) :
    row (sout0_B_2 (F := Ideal) c i arg2 harg2 arg3 harg3 arg4 harg4 arg5 harg5 arg6 harg6 arg7 harg7 arg8 harg8 hc0 hc1 x0 x1 x2 xs)
      = Heavy.accs (prob Q K) (256 * (i 1).val + 52) := by
  have hi := later_block i hc0
  rw [sout_B]
  exact after_acc c i arg2 harg2 arg3 harg3 arg4 harg4 arg5 harg5 arg6 harg6 arg7 harg7 arg8 harg8 Q K hQ hK _ _ _
      (read_X7B c i arg2 harg2 arg3 harg3 arg7 x0 x1 Q K h0 h1) (acc_B i arg8 harg8 xs Q K hxs hi)

end Block

end Cert.KernelIdeal.Pay

end
-- ==== Proof.Heads.lean ====
/-
  The heads of the packed array of queries, keys and values, and the array of all heads' results.
-/
module

public import proofs.«01_k».proof.Proof.Spec
public import Idealize.ShloMosaic.Lib.Pointwise

@[expose] public section

noncomputable section

namespace Cert.Heavy

open Idealize.ShloMosaic

/-- The packed array: queries, keys and values of 16 heads side by side. -/
abbrev Packed := (⟨2, ![2048, 6144]⟩ : Shape).Idx → EReal

def headQ (X : Packed) (h : Fin 16) (i : Fin 2048) (x : Fin 128) : EReal := X (ix2 i ⟨128 * h.val + x.val, by omega⟩)
def headK (X : Packed) (h : Fin 16) (i : Fin 2048) (x : Fin 128) : EReal := X (ix2 i ⟨128 * (16 + h.val) + x.val, by omega⟩)
def headV (X : Packed) (h : Fin 16) (i : Fin 2048) (x : Fin 128) : EReal := X (ix2 i ⟨128 * (32 + h.val) + x.val, by omega⟩)

/-- The result of head `h`, at row `i` and column `d` of the head. -/
def headOut (X : Packed) (h : Fin 16) (i : Fin 2048) (d : Fin 128) : EReal := out (headQ X h) (headK X h) (headV X h) i d

/-- All heads' results side by side. -/
def attn (X : Packed) : (⟨2, ![2048, 2048]⟩ : Shape).Idx → EReal := fun y =>
  headOut X ⟨(y 1).val / 128, by have : (y 1).val < 2048 := (y 1).isLt; omega⟩ ⟨(y 0).val, (y 0).isLt⟩ ⟨(y 1).val % 128, Nat.mod_lt _ (by norm_num)⟩

end Cert.Heavy

end
-- ==== Proof.KernelValue.lean ====
/-
  The array that the kernel returns: point by point through a head's eight blocks, each block leaves its rows of the
  head's result and the accumulated row for the next.
-/
module

public import proofs.«01_k».proof.Proof.Gen.KernelIdeal.Value
public import proofs.«01_k».proof.Proof.KernelBlock
public import proofs.«01_k».proof.Proof.Heads

@[expose] public section

set_option maxRecDepth 16384

noncomputable section

namespace Cert.KernelIdeal.Pay

open Idealize.ShloMosaic Idealize.ShloMosaic.TcCoe Idealize.SL.Sem Cert.KernelIdeal Cert.KernelIdeal.Gen Cert.KernelIdeal.Value

variable (m : (ℓ : Loc nD τ sig) → Buf (Elt Ideal) ℓ) (c : Dev nD)

attribute [local irreducible] Heavy.accs

/-- The packed array as launched. -/
abbrev packed : Heavy.Packed := m ((c : Thread nD τ).loc main_arg0)

theorem coords1 : ∀ t : Fin grid0.N, (grid0.coords t 1).val = t.val % 8 := by decide +kernel

theorem index0 : ∀ t : Fin grid0.N, win0_0.index t (0 : Fin 2) = t.val % 8 ∧ win0_0.index t (1 : Fin 2) = t.val / 8 := by decide +kernel
theorem index1 : ∀ t : Fin grid0.N, win0_1.index t (0 : Fin 2) = 0 ∧ win0_1.index t (1 : Fin 2) = 16 + t.val / 8 := by decide +kernel
theorem index2 : ∀ t : Fin grid0.N, win0_2.index t (0 : Fin 2) = 0 ∧ win0_2.index t (1 : Fin 2) = 32 + t.val / 8 := by decide +kernel

/-- The head of a point. -/
def headOf (t : Fin cfg0.N) : Fin 16 := ⟨t.val / 8, by have h := lt_of_lt_of_eq t.isLt (show cfg0.N = 128 from N_0); omega⟩

theorem iblk0 (t : Fin cfg0.N) (r : Fin 256) (x : Fin 128) :
    iblk m c 0 t (ix2 r x) = Heavy.headQ (packed m c) (headOf t) (tok (grid0.coords t) r) x := by
  obtain ⟨e0, e1⟩ := index0 t
  have ec := coords1 t
  change packed m c (((cfg0.win 0).blk t).view.emb (ix2 r x)) = packed m c _
  refine congrArg (packed m c) (funext fun a => Fin.ext ?_)
  match a with
  | ⟨0, _⟩ =>
    change win0_0.index t (0 : Fin 2) * 256 + 1 * r.val = 256 * (grid0.coords t 1).val + r.val
    rw [e0, ec]; omega
  | ⟨1, _⟩ =>
    change win0_0.index t (1 : Fin 2) * 128 + 1 * x.val = 128 * (t.val / 8) + x.val
    rw [e1]; omega

theorem iblk1 (t : Fin cfg0.N) (r : Fin 2048) (x : Fin 128) :
    iblk m c 1 t (ix2 r x) = Heavy.headK (packed m c) (headOf t) r x := by
  obtain ⟨e0, e1⟩ := index1 t
  change packed m c (((cfg0.win 1).blk t).view.emb (ix2 r x)) = packed m c _
  refine congrArg (packed m c) (funext fun a => Fin.ext ?_)
  match a with
  | ⟨0, _⟩ =>
    change win0_1.index t (0 : Fin 2) * 2048 + 1 * r.val = r.val
    rw [e0]; omega
  | ⟨1, _⟩ =>
    change win0_1.index t (1 : Fin 2) * 128 + 1 * x.val = 128 * (16 + t.val / 8) + x.val
    rw [e1]; omega

theorem iblk2 (t : Fin cfg0.N) (r : Fin 2048) (x : Fin 128) :
    iblk m c 2 t (ix2 r x) = Heavy.headV (packed m c) (headOf t) r x := by
  obtain ⟨e0, e1⟩ := index2 t
  change packed m c (((cfg0.win 2).blk t).view.emb (ix2 r x)) = packed m c _
  refine congrArg (packed m c) (funext fun a => Fin.ext ?_)
  match a with
  | ⟨0, _⟩ =>
    change win0_2.index t (0 : Fin 2) * 2048 + 1 * r.val = r.val
    rw [e0]; omega
  | ⟨1, _⟩ =>
    change win0_2.index t (1 : Fin 2) * 128 + 1 * x.val = 128 * (32 + t.val / 8) + x.val
    rw [e1]; omega

variable (hX : ∀ y, ∃ r : ℝ, packed m c y = r)

/-- The block and the accumulated row that point `t` should leave. -/
def Leaves (t : Fin cfg0.N) : Prop :=
  (∀ (r : Fin 256) (d : Fin 128), (outsAt0 m c t.val t.isLt).1 (ix2 r d) = Heavy.headOut (packed m c) (headOf t) (tok (grid0.coords t) r) d)
    ∧ row (outsAt0 m c t.val t.isLt).2 = Heavy.accs (prob (Heavy.headQ (packed m c) (headOf t)) (Heavy.headK (packed m c) (headOf t)))
      (256 * (t.val % 8) + 52)

include hX in
/-- The first block of a head leaves what it should. -/
theorem leaves_first (t : Fin cfg0.N) (h0 : t.val % 8 = 0) : Leaves m c t := by
  unfold Leaves
  have hQ : ∀ i x, ∃ r : ℝ, Heavy.headQ (packed m c) (headOf t) i x = r := fun i x => hX _
  have hK : ∀ i x, ∃ r : ℝ, Heavy.headK (packed m c) (headOf t) i x = r := fun i x => hX _
  have e := outsAt0_A m c t h0 h0
  have hv := value_A c (grid0.coords t) (ms0_0 t) (hs0_0 t) (ms0_1 t) (hs0_1 t) (ms0_2 t) (hs0_2 t) (ms0_3 t) (hs0_3 t) scM0_0 (Memref.isWhole_whole _) scM0_1 (Memref.isWhole_whole _)
    scM0_2 (Memref.isWhole_whole _) (iblk m c 0 t) (iblk m c 1 t) (iblk m c 2 t) (Heavy.headQ (packed m c) (headOf t)) (Heavy.headK (packed m c) (headOf t)) (Heavy.headV (packed m c) (headOf t))
    hQ hK (iblk0 m c t) (iblk1 m c t) (iblk2 m c t) ((hcond0_0 t).mpr h0) ((hcond0_1 t).mpr h0)
  have hc := carry_A c (grid0.coords t) (ms0_0 t) (hs0_0 t) (ms0_1 t) (hs0_1 t) (ms0_2 t) (hs0_2 t) (ms0_3 t) (hs0_3 t) scM0_0 (Memref.isWhole_whole _) scM0_1 (Memref.isWhole_whole _)
    scM0_2 (Memref.isWhole_whole _) (iblk m c 0 t) (iblk m c 1 t) (iblk m c 2 t) (Heavy.headQ (packed m c) (headOf t)) (Heavy.headK (packed m c) (headOf t))
    hQ hK (iblk0 m c t) (iblk1 m c t) ((hcond0_0 t).mpr h0) ((hcond0_1 t).mpr h0)
  rw [coords1 t] at hc
  refine ⟨fun r d => (congrFun (congrArg Prod.fst e) (ix2 r d)).trans (hv r d), ?_⟩
  rw [e]
  dsimp only
  refine Eq.trans ?_ hc
  refine congrArg row ?_
  rfl

include hX in
/-- A later block leaves what it should when the row it finds is the one accumulated so far. -/
theorem leaves_later (t : Fin cfg0.N) (h0 : ¬ t.val % 8 = 0) (hn' : t.val - 1 < cfg0.N)
    (hp : row (outsAt0 m c (t.val - 1) hn').2
      = Heavy.accs (prob (Heavy.headQ (packed m c) (headOf t)) (Heavy.headK (packed m c) (headOf t))) (256 * (t.val % 8) - 204)) :
    Leaves m c t := by
  unfold Leaves
  have hQ : ∀ i x, ∃ r : ℝ, Heavy.headQ (packed m c) (headOf t) i x = r := fun i x => hX _
  have hK : ∀ i x, ∃ r : ℝ, Heavy.headK (packed m c) (headOf t) i x = r := fun i x => hX _
  have e := outsAt0_B m c t h0 h0
  rw [← coords1 t] at hp
  have hv := value_B c (grid0.coords t) (ms0_0 t) (hs0_0 t) (ms0_1 t) (hs0_1 t) (ms0_2 t) (hs0_2 t) (ms0_3 t) (hs0_3 t) scM0_0 (Memref.isWhole_whole _) scM0_1 (Memref.isWhole_whole _)
    scM0_2 (Memref.isWhole_whole _) (iblk m c 0 t) (iblk m c 1 t) (iblk m c 2 t) (outsAt0 m c (t.val - 1) (Nat.lt_of_le_of_lt (Nat.sub_le _ _) t.isLt)).2 (Heavy.headQ (packed m c) (headOf t)) (Heavy.headK (packed m c) (headOf t)) (Heavy.headV (packed m c) (headOf t))
    hQ hK (iblk0 m c t) (iblk1 m c t) (iblk2 m c t) hp (fun h => h0 ((hcond0_0 t).mp h)) (fun h => h0 ((hcond0_1 t).mp h))
  have hc := carry_B c (grid0.coords t) (ms0_0 t) (hs0_0 t) (ms0_1 t) (hs0_1 t) (ms0_2 t) (hs0_2 t) (ms0_3 t) (hs0_3 t) scM0_0 (Memref.isWhole_whole _) scM0_1 (Memref.isWhole_whole _)
    scM0_2 (Memref.isWhole_whole _) (iblk m c 0 t) (iblk m c 1 t) (iblk m c 2 t) (outsAt0 m c (t.val - 1) (Nat.lt_of_le_of_lt (Nat.sub_le _ _) t.isLt)).2 (Heavy.headQ (packed m c) (headOf t)) (Heavy.headK (packed m c) (headOf t))
    hQ hK (iblk0 m c t) (iblk1 m c t) hp (fun h => h0 ((hcond0_0 t).mp h)) (fun h => h0 ((hcond0_1 t).mp h))
  rw [coords1 t] at hc
  refine ⟨fun r d => (congrFun (congrArg Prod.fst e) (ix2 r d)).trans (hv r d), ?_⟩
  rw [e]
  dsimp only
  refine Eq.trans ?_ hc
  refine congrArg row ?_
  rfl

include hX in
/-- What point `n` leaves: its block of the head's result, and the accumulated row before the next block. -/
theorem point_value (n : Nat) : ∀ hn : n < cfg0.N, Leaves m c ⟨n, hn⟩ := by
  induction n with
  | zero => exact fun hn => leaves_first m c hX ⟨0, hn⟩ rfl
  | succ n ih =>
    intro hn
    have hn' : n < cfg0.N := Nat.lt_of_succ_lt hn
    by_cases h : (n + 1) % 8 = 0
    · exact leaves_first m c hX ⟨n + 1, hn⟩ h
    refine leaves_later m c hX ⟨n + 1, hn⟩ h hn' ?_
    have hp := (ih hn').2
    have eh : headOf ⟨n, hn'⟩ = headOf ⟨n + 1, hn⟩ := Fin.ext (by change n / 8 = (n + 1) / 8; omega)
    rw [eh] at hp
    change _ = Heavy.accs _ (256 * ((n + 1) % 8) - 204)
    rw [show 256 * ((n + 1) % 8) - 204 = 256 * (n % 8) + 52 by omega]
    exact hp

/-- A number below 2048 over 256 is below 8, so it does not reach the head's part of the point's number. -/
theorem point_parts (a b : Nat) (ha : a < 2048) :
    (1 * (a / 256 - 0) + 8 * (b / 128 - 0)) / 8 = b / 128 ∧ 256 * ((1 * (a / 256 - 0) + 8 * (b / 128 - 0)) % 8) + a % 256 = a := by omega

include hX in
/-- The array the kernel returns is all heads' results. -/
theorem G3_eq : G3 m c = Heavy.attn (packed m c) := by
  funext y
  have h0 : (y 0).val < 2048 := (y 0).isLt
  have h1 : (y 1).val < 2048 := (y 1).isLt
  have hb : pt3Of y < cfg0.N := lt_of_lt_of_eq (show pt3Of y < 128 by unfold pt3Of run3Of; omega) N_0.symm
  unfold G3
  rw [dif_pos hb, ← outsAt0_sweep m c (pt3Of y) hb]
  have hl : loc3Of y = ix2 (⟨(y 0).val % 256, Nat.mod_lt _ (by norm_num)⟩ : Fin 256) (⟨(y 1).val % 128, Nat.mod_lt _ (by norm_num)⟩ : Fin 128) := by
    funext a
    match a with
    | ⟨0, _⟩ => rfl
    | ⟨1, _⟩ => rfl
  rw [hl, (point_value m c hX (pt3Of y) hb).1]
  have ec : (grid0.coords ⟨pt3Of y, hb⟩ 1).val = pt3Of y % 8 := coords1 ⟨pt3Of y, hb⟩
  have eh : headOf ⟨pt3Of y, hb⟩ = ⟨(y 1).val / 128, by omega⟩ := Fin.ext (point_parts _ _ h0).1
  have et : tok (grid0.coords ⟨pt3Of y, hb⟩) ⟨(y 0).val % 256, Nat.mod_lt _ (by norm_num)⟩ = ⟨(y 0).val, h0⟩ :=
    Fin.ext (by change 256 * (grid0.coords ⟨pt3Of y, hb⟩ 1).val + (y 0).val % 256 = _; rw [ec]; exact (point_parts _ _ h0).2)
  rw [eh, et]
  rfl

end Cert.KernelIdeal.Pay

end
-- ==== Proof.RefOps.lean ====
/-
  The reference's arrays before and after its loop, as functions of the packed array.
-/
module

public import proofs.«01_k».proof.Proof.Gen.ReferenceIdeal.Run
public import Idealize.ShloMosaic.Lib.StableHlo.RunClose
public import proofs.«01_k».proof.Proof.Heads

@[expose] public section

set_option maxRecDepth 16384

noncomputable section

namespace Cert.ReferenceIdeal.Read

open Idealize.ShloMosaic Idealize.ShloMosaic.TcCoe Idealize.SL.Sem Cert.ReferenceIdeal Cert.ReferenceIdeal.Gen Cert.ReferenceIdeal.Value
open Idealize.ShloMosaic.StableHlo

/-- One third of the packed array, by heads. -/
def heads (X : FVec Ideal S2048x2048 .f32) : FVec Ideal S16x2048x128 .f32 :=
  transpose S16x2048x128 [1, 0, 2] (shapeCast S2048x16x128 X shapeCasts_S2048x2048_S2048x16x128) transposes_S2048x16x128_S16x2048x128_1_0_2

def qs (X : FVec Ideal S2048x6144 .f32) : FVec Ideal S16x2048x128 .f32 := heads (extractStridedSlice S2048x2048 ![0, 0] X slices_S2048x6144_S2048x2048_0_0)
def ks (X : FVec Ideal S2048x6144 .f32) : FVec Ideal S16x2048x128 .f32 := heads (extractStridedSlice S2048x2048 ![0, 2048] X slices_S2048x6144_S2048x2048_0_2048)
def vs (X : FVec Ideal S2048x6144 .f32) : FVec Ideal S16x2048x128 .f32 := heads (extractStridedSlice S2048x2048 ![0, 4096] X slices_S2048x6144_S2048x2048_0_4096)

/-- The scores of queries and keys. -/
def scores (q k : FVec Ideal S16x2048x128 .f32) : FVec Ideal S16x2048x2048 .f32 :=
  maximumf (Host.divf (Host.dotGeneral dot_S16x2048x128_S16x2048x128_S16x2048x2048_2_2_1_1_0_0 none q k)
    (broadcastInDim S16x2048x2048 ![] bcast_S_S16x2048x2048 (Host.sqrt (constant S_ .f32 0x43000000#32))))
    (broadcastInDim S16x2048x2048 ![] bcast_S_S16x2048x2048 (constant S_ .f32 0xFF7FFFFF#32))

/-- The maxima of the rows. -/
def maxs (s : FVec Ideal S16x2048x2048 .f32) : FVec Ideal S16x2048 .f32 :=
  Host.reduce FloatOps.maximumf s (constant S_ .f32 0xFF800000#32) reducesTo_S16x2048x2048_S16x2048_d2 h_S_

/-- The exponentials of the rows less a number each. -/
def expsLess (s : FVec Ideal S16x2048x2048 .f32) (M : FVec Ideal S16x2048 .f32) : FVec Ideal S16x2048x2048 .f32 :=
  Host.exp (subf s (broadcastInDim S16x2048x2048 ![0, 1, 2] bcast_S16x2048x1_S16x2048x2048_0_1_2 (broadcastInDim S16x2048x1 ![0, 1] bcast_S16x2048_S16x2048x1_0_1 M)))

/-- The rows' numbers, none below minus infinity. -/
def aboveBot (M : FVec Ideal S16x2048 .f32) : FVec Ideal S16x2048 .f32 :=
  maximumf (broadcastInDim S16x2048 ![] bcast_S_S16x2048 (constant S_ .f32 0xFF800000#32)) M

/-- The rows over their sums. -/
def overSums (E : FVec Ideal S16x2048x2048 .f32) : FVec Ideal S16x2048x2048 .f32 :=
  Host.divf E (broadcastInDim S16x2048x2048 ![0, 1, 2] bcast_S16x2048x1_S16x2048x2048_0_1_2 (broadcastInDim S16x2048x1 ![0, 1] bcast_S16x2048_S16x2048x1_0_1
    (Host.reduceAdd E (constant S_ .f32 0x00000000#32) reducesTo_S16x2048x2048_S16x2048_d2 h_S_)))

/-- The rows' softmax. -/
def softs (s : FVec Ideal S16x2048x2048 .f32) : FVec Ideal S16x2048x2048 .f32 := overSums (expsLess s (aboveBot (maxs s)))

/-- The first accumulated rows. -/
def startRows (p : FVec Ideal S16x2048x2048 .f32) : FVec Ideal S16x2048 .f32 :=
  select (broadcastInDim S16x2048 ![0, 1] bcast_S1x2048_S16x2048_0_1 (cmpi .slt (broadcastInDim S1x2048 ![1] bcast_S2048_S1x2048_1 (iotaInDim S2048 32 0))
      (broadcastInDim S1x2048 ![] bcast_S_S1x2048 (constantI S_ 32 204#32))))
    (Host.reduceAdd (extractStridedSlice S16x204x2048 ![0, 0, 0] p slices_S16x2048x2048_S16x204x2048_0_0_0) (constant S_ .f32 0x00000000#32) reducesTo_S16x204x2048_S16x2048_d1 h_S_)
    (broadcastInDim S16x2048 ![] bcast_S_S16x2048 (id (constant S_ .f32 0x00000000#32)))

variable (V : Valuation τ sig (Elt Ideal))

theorem after0_v14 : after hostOps0 V (Proc.devRef .tc main_v14) = scores (qs (V (Proc.devRef .tc main_arg0))) (ks (V (Proc.devRef .tc main_arg0))) := by
  unfold scores qs ks heads
  simp only [hostOps0]
  after_results_entrywise [cast_eq]

theorem after0_v8 : after hostOps0 V (Proc.devRef .tc main_v8) = vs (V (Proc.devRef .tc main_arg0)) := by
  unfold vs heads
  simp only [hostOps0]
  after_results_entrywise [cast_eq]

theorem after0_v25 : after hostOps0 V (Proc.devRef .tc main_v25) = softs (scores (qs (V (Proc.devRef .tc main_arg0))) (ks (V (Proc.devRef .tc main_arg0)))) := by
  unfold softs overSums expsLess aboveBot maxs scores qs ks heads
  simp only [hostOps0]
  after_results_entrywise [cast_eq]

theorem after01_v32 : after hostOps0_1 (after hostOps0 V) (Proc.devRef .tc main_v32)
    = startRows (after hostOps0 V (Proc.devRef .tc main_v25)) := by
  unfold startRows
  simp only [hostOps0, hostOps0_1]
  after_results_entrywise [cast_eq]

/-- The mask before the loop: the first 204 columns. -/
def mask0 : IVec S16x2048x2048 1 :=
  broadcastInDim S16x2048x2048 ![0, 1, 2] bcast_S1x1x2048_S16x2048x2048_0_1_2 (cmpi .slt (broadcastInDim S1x1x2048 ![2] bcast_S2048_S1x1x2048_2 (iotaInDim S2048 32 0))
    (broadcastInDim S1x1x2048 ![] bcast_S_S1x1x2048 (constantI S_ 32 204#32)))

theorem after2_v38_4 : after hostOps0_2 V (Proc.devRef .tc main_v38_4) = mask0 := by
  unfold mask0
  simp only [hostOps0_2]
  after_results_entrywise [cast_eq]

theorem after2_v38_3 : after hostOps0_2 V (Proc.devRef .tc main_v38_3) = V (Proc.devRef .tc main_v32) := by
  simp only [hostOps0_2]
  after_results_entrywise [cast_eq]

theorem after2_v38_2 : after hostOps0_2 V (Proc.devRef .tc main_v38_2) = constantI S_ 32 0#32 := by
  simp only [hostOps0_2]
  after_results_entrywise [cast_eq]

theorem after2_v38_0 : after hostOps0_2 V (Proc.devRef .tc main_v38_0) = V (Proc.devRef .tc main_v25) := by
  simp only [hostOps0_2]
  after_results_entrywise [cast_eq]

/-- The columns near to the row. -/
def near : IVec S16x2048x2048 1 :=
  select (broadcastInDim S16x2048x2048 ![1, 2] bcast_S2048x2048_S16x2048x2048_1_2
      (cmpi .sge (addi (iotaInDim S2048x2048 32 0) (broadcastInDim S2048x2048 ![] bcast_S_S2048x2048 (constantI S_ 32 4294967091#32))) (iotaInDim S2048x2048 32 1)))
    (broadcastInDim S16x2048x2048 ![] bcast_S_S16x2048x2048 (constantI S_ 1 0#1))
    (broadcastInDim S16x2048x2048 ![] bcast_S_S16x2048x2048 (constantI S_ 1 1#1))

/-- The mask after the loop. -/
def maskEnd (k : IVec S16x2048x2048 1) : IVec S16x2048x2048 1 :=
  select (broadcastInDim S16x2048x2048 ![1, 2] bcast_S2048x2048_S16x2048x2048_1_2
      (cmpi .sge (addi (iotaInDim S2048x2048 32 0) (broadcastInDim S2048x2048 ![] bcast_S_S2048x2048 (constantI S_ 32 0#32))) (iotaInDim S2048x2048 32 1)))
    (ori k near)
    (broadcastInDim S16x2048x2048 ![] bcast_S_S16x2048x2048 (constantI S_ 1 0#1))

/-- The scores kept by a mask, the rest zero. -/
def keptScores (k : IVec S16x2048x2048 1) (s : FVec Ideal S16x2048x2048 .f32) : FVec Ideal S16x2048x2048 .f32 :=
  select k s (broadcastInDim S16x2048x2048 ![] bcast_S_S16x2048x2048 (id (constant S_ .f32 0x00000000#32)))

/-- The heads' results side by side. -/
def joined (p : FVec Ideal S16x2048x2048 .f32) (v : FVec Ideal S16x2048x128 .f32) : FVec Ideal S2048x2048 .f32 :=
  shapeCast S2048x2048 (transpose S2048x16x128 [1, 0, 2] (Host.dotGeneral dot_S16x2048x2048_S16x2048x128_S16x2048x128_2_1_1_2_0_0 none p v)
    transposes_S16x2048x128_S2048x16x128_1_0_2) shapeCasts_S2048x16x128_S2048x2048

theorem post_v39 : after hostOps0_3 V (Proc.devRef .tc main_v39) = broadcastInDim S16x2048x2048 ![] bcast_S_S16x2048x2048 (constantI S_ 1 1#1) := by
  simp only [hostOps0_3]
  after_results_entrywise [cast_eq]

theorem post3_v38_4 : after hostOps0_3 V (Proc.devRef .tc main_v38_4) = V (Proc.devRef .tc main_v38_4) := by
  simp only [hostOps0_3]
  after_results_entrywise [cast_eq]

theorem post3_v14 : after hostOps0_3 V (Proc.devRef .tc main_v14) = V (Proc.devRef .tc main_v14) := by
  simp only [hostOps0_3]
  after_results_entrywise [cast_eq]

theorem post3_v8 : after hostOps0_3 V (Proc.devRef .tc main_v8) = V (Proc.devRef .tc main_v8) := by
  simp only [hostOps0_3]
  after_results_entrywise [cast_eq]

theorem post3_arg0 : after hostOps0_3 V (Proc.devRef .tc main_arg0) = V (Proc.devRef .tc main_arg0) := by
  simp only [hostOps0_3]
  after_results_entrywise [cast_eq]

/-- The operations of `triu`, its diagonal a parameter. -/
abbrev triuOps (w : BitVec 32) : List (HloOp τ sig (Elt Ideal)) :=
  [ StableHlo.TRef.nullary (.of main_call4_v0 : StableHlo.TRef sig ⟨S2048x2048, .i32⟩) (iotaInDim S2048x2048 32 0),
    StableHlo.TRef.nullary (.of main_call4_c : StableHlo.TRef sig ⟨S_, .i32⟩) (constantI S_ 32 w),
    StableHlo.TRef.unary (.of main_call4_c : StableHlo.TRef sig ⟨S_, .i32⟩) (.of main_call4_v1 : StableHlo.TRef sig ⟨S2048x2048, .i32⟩) (broadcastInDim S2048x2048 ![] bcast_S_S2048x2048),
    StableHlo.TRef.binary (.of main_call4_v0 : StableHlo.TRef sig ⟨S2048x2048, .i32⟩) (.of main_call4_v1 : StableHlo.TRef sig ⟨S2048x2048, .i32⟩) (.of main_call4_v2 : StableHlo.TRef sig ⟨S2048x2048, .i32⟩) addi,
    StableHlo.TRef.nullary (.of main_call4_v3 : StableHlo.TRef sig ⟨S2048x2048, .i32⟩) (iotaInDim S2048x2048 32 1),
    StableHlo.TRef.binary (.of main_call4_v2 : StableHlo.TRef sig ⟨S2048x2048, .i32⟩) (.of main_call4_v3 : StableHlo.TRef sig ⟨S2048x2048, .i32⟩) (.of main_call4_v4 : StableHlo.TRef sig ⟨S2048x2048, .i1⟩) (cmpi .sge),
    StableHlo.TRef.unary (.of main_call4_v4 : StableHlo.TRef sig ⟨S2048x2048, .i1⟩) (.of main_call4_v5 : StableHlo.TRef sig ⟨S16x2048x2048, .i1⟩) (broadcastInDim S16x2048x2048 ![1, 2] bcast_S2048x2048_S16x2048x2048_1_2),
    StableHlo.TRef.nullary (.of main_call4_c_0 : StableHlo.TRef sig ⟨S_, .i1⟩) (constantI S_ 1 0#1),
    StableHlo.TRef.unary (.of main_call4_c_0 : StableHlo.TRef sig ⟨S_, .i1⟩) (.of main_call4_v6 : StableHlo.TRef sig ⟨S16x2048x2048, .i1⟩) (broadcastInDim S16x2048x2048 ![] bcast_S_S16x2048x2048),
    StableHlo.TRef.ternary (.of main_call4_v5 : StableHlo.TRef sig ⟨S16x2048x2048, .i1⟩) (.of main_call4_v6 : StableHlo.TRef sig ⟨S16x2048x2048, .i1⟩) (.of main_v39 : StableHlo.TRef sig ⟨S16x2048x2048, .i1⟩) (.of main_v40 : StableHlo.TRef sig ⟨S16x2048x2048, .i1⟩) select ]

theorem triu_v40 (w : BitVec 32) : after (triuOps w) V (Proc.devRef .tc main_v40) = select (broadcastInDim S16x2048x2048 ![1, 2] bcast_S2048x2048_S16x2048x2048_1_2
      (cmpi .sge (addi (iotaInDim S2048x2048 32 0) (broadcastInDim S2048x2048 ![] bcast_S_S2048x2048 (constantI S_ 32 w))) (iotaInDim S2048x2048 32 1)))
    (broadcastInDim S16x2048x2048 ![] bcast_S_S16x2048x2048 (constantI S_ 1 0#1)) (V (Proc.devRef .tc main_v39)) := by
  simp only [triuOps]
  after_results_entrywise [cast_eq]

theorem post_v40 : after hostOps0_4 V (Proc.devRef .tc main_v40) = select (broadcastInDim S16x2048x2048 ![1, 2] bcast_S2048x2048_S16x2048x2048_1_2
      (cmpi .sge (addi (iotaInDim S2048x2048 32 0) (broadcastInDim S2048x2048 ![] bcast_S_S2048x2048 (constantI S_ 32 4294967091#32))) (iotaInDim S2048x2048 32 1)))
    (broadcastInDim S16x2048x2048 ![] bcast_S_S16x2048x2048 (constantI S_ 1 0#1)) (V (Proc.devRef .tc main_v39)) :=
  triu_v40 V 4294967091#32

theorem triu_v38_4 (w : BitVec 32) : after (triuOps w) V (Proc.devRef .tc main_v38_4) = V (Proc.devRef .tc main_v38_4) := by
  simp only [triuOps]
  after_results_entrywise [cast_eq]

theorem post4_v38_4 : after hostOps0_4 V (Proc.devRef .tc main_v38_4) = V (Proc.devRef .tc main_v38_4) := triu_v38_4 V 4294967091#32

theorem triu_v14 (w : BitVec 32) : after (triuOps w) V (Proc.devRef .tc main_v14) = V (Proc.devRef .tc main_v14) := by
  simp only [triuOps]
  after_results_entrywise [cast_eq]

theorem post4_v14 : after hostOps0_4 V (Proc.devRef .tc main_v14) = V (Proc.devRef .tc main_v14) := triu_v14 V 4294967091#32

theorem triu_v8 (w : BitVec 32) : after (triuOps w) V (Proc.devRef .tc main_v8) = V (Proc.devRef .tc main_v8) := by
  simp only [triuOps]
  after_results_entrywise [cast_eq]

theorem post4_v8 : after hostOps0_4 V (Proc.devRef .tc main_v8) = V (Proc.devRef .tc main_v8) := triu_v8 V 4294967091#32

theorem triu_arg0 (w : BitVec 32) : after (triuOps w) V (Proc.devRef .tc main_arg0) = V (Proc.devRef .tc main_arg0) := by
  simp only [triuOps]
  after_results_entrywise [cast_eq]

theorem post4_arg0 : after hostOps0_4 V (Proc.devRef .tc main_arg0) = V (Proc.devRef .tc main_arg0) := triu_arg0 V 4294967091#32

theorem post_v41 : after hostOps0_5 V (Proc.devRef .tc main_v41) = ori (V (Proc.devRef .tc main_v38_4)) (V (Proc.devRef .tc main_v40)) := by
  simp only [hostOps0_5]
  after_results_entrywise [cast_eq]

theorem post5_v14 : after hostOps0_5 V (Proc.devRef .tc main_v14) = V (Proc.devRef .tc main_v14) := by
  simp only [hostOps0_5]
  after_results_entrywise [cast_eq]

theorem post5_v8 : after hostOps0_5 V (Proc.devRef .tc main_v8) = V (Proc.devRef .tc main_v8) := by
  simp only [hostOps0_5]
  after_results_entrywise [cast_eq]

theorem post5_arg0 : after hostOps0_5 V (Proc.devRef .tc main_arg0) = V (Proc.devRef .tc main_arg0) := by
  simp only [hostOps0_5]
  after_results_entrywise [cast_eq]

theorem post_v42 : after hostOps0_6 V (Proc.devRef .tc main_v42)
    = select (broadcastInDim S16x2048x2048 ![1, 2] bcast_S2048x2048_S16x2048x2048_1_2
      (cmpi .sge (addi (iotaInDim S2048x2048 32 0) (broadcastInDim S2048x2048 ![] bcast_S_S2048x2048 (constantI S_ 32 0#32))) (iotaInDim S2048x2048 32 1)))
    (V (Proc.devRef .tc main_v41)) (broadcastInDim S16x2048x2048 ![] bcast_S_S16x2048x2048 (constantI S_ 1 0#1)) := by
  simp only [hostOps0_6]
  after_results_entrywise [cast_eq]

theorem post6_v14 : after hostOps0_6 V (Proc.devRef .tc main_v14) = V (Proc.devRef .tc main_v14) := by
  simp only [hostOps0_6]
  after_results_entrywise [cast_eq]

theorem post6_v8 : after hostOps0_6 V (Proc.devRef .tc main_v8) = V (Proc.devRef .tc main_v8) := by
  simp only [hostOps0_6]
  after_results_entrywise [cast_eq]

theorem post6_arg0 : after hostOps0_6 V (Proc.devRef .tc main_arg0) = V (Proc.devRef .tc main_arg0) := by
  simp only [hostOps0_6]
  after_results_entrywise [cast_eq]

theorem post_v43 : after hostOps0_8 (after hostOps0_7 V) (Proc.devRef .tc main_v43) = keptScores (V (Proc.devRef .tc main_v42)) (V (Proc.devRef .tc main_v14)) := by
  unfold keptScores
  simp only [hostOps0_7, hostOps0_8]
  after_results_entrywise [cast_eq]

theorem post7_arg0 : after hostOps0_7 V (Proc.devRef .tc main_arg0) = V (Proc.devRef .tc main_arg0) := by
  simp only [hostOps0_7]
  after_results_entrywise [cast_eq]

theorem post8_arg0 : after hostOps0_8 V (Proc.devRef .tc main_arg0) = V (Proc.devRef .tc main_arg0) := by
  simp only [hostOps0_8]
  after_results_entrywise [cast_eq]

theorem post9_arg0 : after hostOps0_9 V (Proc.devRef .tc main_arg0) = V (Proc.devRef .tc main_arg0) := by
  simp only [hostOps0_9]
  after_results_entrywise [cast_eq]

theorem post_v8' : after hostOps0_8 (after hostOps0_7 V) (Proc.devRef .tc main_v8) = V (Proc.devRef .tc main_v8) := by
  simp only [hostOps0_7, hostOps0_8]
  after_results_entrywise [cast_eq]

theorem post_v57 : after hostOps0_9 V (Proc.devRef .tc main_v57) = joined (softs (V (Proc.devRef .tc main_v43))) (V (Proc.devRef .tc main_v8)) := by
  unfold joined softs overSums expsLess aboveBot maxs
  simp only [hostOps0_9]
  after_results_entrywise [cast_eq]

/-- What the operations after the loop leave at the result. -/
theorem afterL_post : afterL postI V (Proc.devRef .tc main_v57)
    = joined (softs (keptScores (maskEnd (V (Proc.devRef .tc main_v38_4))) (V (Proc.devRef .tc main_v14)))) (V (Proc.devRef .tc main_v8)) := by
  unfold maskEnd near
  simp only [postI, afterL_cons, afterL_nil]
  rw [post_v57, post_v43, post_v8', post_v42, post_v41, post6_v14, post6_v8, post5_v14, post5_v8, post4_v14, post4_v8, post4_v38_4, post_v40,
    post3_v14, post3_v8, post3_v38_4, post_v39]

theorem afterL_post_arg0 : afterL postI V (Proc.devRef .tc main_arg0) = V (Proc.devRef .tc main_arg0) := by
  simp only [postI, afterL_cons, afterL_nil]
  rw [post9_arg0, post8_arg0, post7_arg0, post6_arg0, post5_arg0, post4_arg0, post3_arg0]

/-- A buffer that neither the loop's test nor its body writes is as before the loop. -/
theorem atTrip_keep (W : Dev nD → Valuation τ sig (Elt Ideal)) (c : Dev nD) (r : Ref sig .tc) (hc : r ∉ condOps_W)
    (h0 : r ∉ while0Ops0_W) (h1 : r ∉ while0Ops0_1_W) (h2 : r ∉ while0Ops0_2_W) (h3 : r ∉ while0Ops0_3_W) (h4 : r ∉ while0Ops0_4_W)
    (h5 : r ∉ while0Ops0_5_W) (h6 : r ∉ while0Ops0_6_W) (k : Nat) :
    after condOps (atTrip condOps bodyI W k c) (Proc.devRef .tc r) = W c (Proc.devRef .tc r) := by
  rw [after_of_writes_sub condOps _ condOps_writes hc]
  induction k with
  | zero => rfl
  | succ k ih =>
    change after while0Ops0_6 (after while0Ops0_5 (after while0Ops0_4 (after while0Ops0_3 (after while0Ops0_2 (after while0Ops0_1 (after while0Ops0
      (after condOps (atTrip condOps bodyI W k c)))))))) _ = _
    rw [after_of_writes_sub while0Ops0_6 _ while0Ops0_6_writes h6, after_of_writes_sub while0Ops0_5 _ while0Ops0_5_writes h5,
      after_of_writes_sub while0Ops0_4 _ while0Ops0_4_writes h4, after_of_writes_sub while0Ops0_3 _ while0Ops0_3_writes h3,
      after_of_writes_sub while0Ops0_2 _ while0Ops0_2_writes h2, after_of_writes_sub while0Ops0_1 _ while0Ops0_1_writes h1,
      after_of_writes_sub while0Ops0 _ while0Ops0_writes h0, after_of_writes_sub condOps _ condOps_writes hc, ih]

variable (m : (ℓ : Loc nD τ sig) → Buf (Elt Ideal) ℓ) (c : Dev nD)

/-- The packed array as launched. -/
abbrev arg : FVec Ideal S2048x6144 .f32 := m ((c : Thread nD τ).loc main_arg0)

/-- The scores of all heads. -/
abbrev allScores : FVec Ideal S16x2048x2048 .f32 := scores (qs (arg m c)) (ks (arg m c))

theorem pre_keep (r : Ref sig .tc) (h1 : r ∉ hostOps0_1_W) (h2 : r ∉ hostOps0_2_W) :
    entryContents (preI (F := Ideal)) m c (Proc.devRef .tc r) = after (hostOps0 (F := Ideal)) (launchContents m c) (Proc.devRef .tc r) := by
  change after hostOps0_2 (after hostOps0_1 (after (hostOps0 (F := Ideal)) (launchContents m c))) _ = _
  rw [after_of_writes_sub (hostOps0_2 (F := Ideal)) _ (hostOps0_2_writes (F := Ideal)) h2, after_of_writes_sub (hostOps0_1 (F := Ideal)) _ (hostOps0_1_writes (F := Ideal)) h1]

theorem entry_v14 : entryContents (preI (F := Ideal)) m c (Proc.devRef .tc main_v14) = allScores m c :=
  (pre_keep m c main_v14 (by decide) (by decide)).trans (after0_v14 _)

theorem entry_v8 : entryContents (preI (F := Ideal)) m c (Proc.devRef .tc main_v8) = vs (arg m c) :=
  (pre_keep m c main_v8 (by decide) (by decide)).trans (after0_v8 _)

theorem entry_arg0 : entryContents (preI (F := Ideal)) m c (Proc.devRef .tc main_arg0) = arg m c :=
  (pre_keep m c main_arg0 (by decide) (by decide)).trans (after_of_writes_sub (hostOps0 (F := Ideal)) _ (hostOps0_writes (F := Ideal)) (by decide))

theorem entry_v38_0 : entryContents (preI (F := Ideal)) m c (Proc.devRef .tc main_v38_0) = softs (allScores m c) := by
  refine (after2_v38_0 _).trans ?_
  rw [after_of_writes_sub (hostOps0_1 (F := Ideal)) _ (hostOps0_1_writes (F := Ideal)) (by decide)]
  exact after0_v25 _

theorem entry_v38_2 : entryContents (preI (F := Ideal)) m c (Proc.devRef .tc main_v38_2) = constantI S_ 32 0#32 := after2_v38_2 _

theorem entry_v38_3 : entryContents (preI (F := Ideal)) m c (Proc.devRef .tc main_v38_3) = startRows (softs (allScores m c)) := by
  refine (after2_v38_3 _).trans ((after01_v32 _).trans ?_)
  exact congrArg startRows (after0_v25 _)

theorem entry_v38_4 : entryContents (preI (F := Ideal)) m c (Proc.devRef .tc main_v38_4) = mask0 := after2_v38_4 _

/-- The result, from the mask that the loop leaves. -/
theorem final_v57 : finalContents (condOps (F := Ideal)) preI bodyI postI 1844 m c (Proc.devRef .tc main_v57)
    = joined (softs (keptScores (maskEnd (STEP^[1844] (entryContents (preI (F := Ideal)) m c) (Proc.devRef .tc main_v38_4))) (allScores m c))) (vs (arg m c)) := by
  have h4 : after condOps (atTrip condOps bodyI (entryContents preI m) 1844 c) (Proc.devRef .tc main_v38_4)
      = STEP^[1844] (entryContents (preI (F := Ideal)) m c) (Proc.devRef .tc main_v38_4) :=
    (after_of_writes_sub condOps _ condOps_writes (by decide)).trans (atK_agree m c 1844 main_v38_4 (by decide))
  refine (afterL_post _).trans ?_
  rw [h4, atTrip_keep _ c main_v14 (by decide) (by decide) (by decide) (by decide) (by decide) (by decide) (by decide) (by decide),
    atTrip_keep _ c main_v8 (by decide) (by decide) (by decide) (by decide) (by decide) (by decide) (by decide) (by decide), entry_v14, entry_v8]

theorem final_arg0 : finalContents (condOps (F := Ideal)) preI bodyI postI 1844 m c (Proc.devRef .tc main_arg0) = m ((c : Thread nD τ).loc main_arg0) := by
  refine (afterL_post_arg0 _).trans ?_
  rw [atTrip_keep _ c main_arg0 (by decide) (by decide) (by decide) (by decide) (by decide) (by decide) (by decide) (by decide)]
  exact entry_arg0 m c

end Cert.ReferenceIdeal.Read

end
-- ==== Proof.RefRead.lean ====
/-
  The entries of the reference's arrays.
-/
module

public import proofs.«01_k».proof.Proof.RefOps

@[expose] public section

set_option maxRecDepth 16384

noncomputable section

namespace Cert.ReferenceIdeal.Read

open Idealize.ShloMosaic Idealize.ShloMosaic.TcCoe Idealize.SL.Sem Cert.ReferenceIdeal Cert.ReferenceIdeal.Gen Cert.ReferenceIdeal.Value
open Idealize.ShloMosaic.StableHlo

theorem toInt_small (z : Nat) (hz : z < 2048) : (BitVec.ofNat 32 z).toInt = z := by
  rw [BitVec.toInt_eq_toNat_of_lt] <;> rw [BitVec.toNat_ofNat] <;> omega

theorem toInt_back (z : Nat) (hz : z < 2048) : (BitVec.ofNat 32 z + 4294967091#32).toInt = (z : Int) - 205 := by
  rw [BitVec.toInt_eq_toNat_cond, BitVec.toNat_add, BitVec.toNat_ofNat, BitVec.toNat_ofNat]
  split <;> omega

theorem cmpi_slt (x y : BitVec 32) : IntOp.cmpi .slt x y = BitVec.ofBool (decide (x.toInt < y.toInt)) := by
  change BitVec.ofBool (x.slt y) = _
  rw [BitVec.slt_eq_decide]

theorem cmpi_sge (x y : BitVec 32) : IntOp.cmpi .sge x y = BitVec.ofBool (decide (y.toInt ≤ x.toInt)) := by
  change BitVec.ofBool (y.sle x) = _
  rw [BitVec.sle]

theorem select_ofBool {α : Type} (p : Bool) (x y : α) : Scalar.select (BitVec.ofBool p) x y = if p then x else y := by
  cases p <;> rfl

theorem heads_apply (X : FVec Ideal S2048x2048 .f32) (h : Fin 16) (i : Fin 2048) (x : Fin 128) :
    heads X (ix3 h i x) = X (ix2 i ⟨128 * h.val + x.val, by omega⟩) := by
  pointwise [heads]
  exact congrArg (fun z => X (ix2 i z)) (Fin.ext (by change h.val * 128 + x.val = 128 * h.val + x.val; omega))

theorem qs_apply (X : FVec Ideal S2048x6144 .f32) (h : Fin 16) (i : Fin 2048) (x : Fin 128) : qs X (ix3 h i x) = Heavy.headQ X h i x := by
  unfold qs
  rw [heads_apply]
  pointwise
  rfl

theorem ks_apply (X : FVec Ideal S2048x6144 .f32) (h : Fin 16) (i : Fin 2048) (x : Fin 128) : ks X (ix3 h i x) = Heavy.headK X h i x := by
  unfold ks
  rw [heads_apply]
  pointwise
  exact congrArg (fun z => X (ix2 i z)) (Fin.ext (by change 2048 + (128 * h.val + x.val) = 128 * (16 + h.val) + x.val; omega))

theorem vs_apply (X : FVec Ideal S2048x6144 .f32) (h : Fin 16) (i : Fin 2048) (x : Fin 128) : vs X (ix3 h i x) = Heavy.headV X h i x := by
  unfold vs
  rw [heads_apply]
  pointwise
  exact congrArg (fun z => X (ix2 i z)) (Fin.ext (by change 4096 + (128 * h.val + x.val) = 128 * (32 + h.val) + x.val; omega))

theorem root_eq : Ideal.sqrt (Ideal.ofBits .f32 1124073472#32) = ((Real.sqrt 128 : ℝ) : EReal) := by
  have h : Ideal.ofBits .f32 1124073472#32 = ((128 : ℝ) : EReal) := by
    simp [Ideal.ofBits, Ideal.ieee]
    rw [← EReal.coe_mul]
    norm_num
  rw [h, Ideal.sqrt_coe, if_neg (by norm_num)]

theorem scores_apply (q k : FVec Ideal S16x2048x128 .f32) (h : Fin 16) (i j : Fin 2048) :
    scores q k (ix3 h i j) = Heavy.score (fun i x => q (ix3 h i x)) (fun i x => k (ix3 h i x)) i j := by
  pointwise [scores]
  rw [root_eq, Ideal.div_coe (by positivity), one_div]
  rfl

theorem maxs_apply (s : FVec Ideal S16x2048x2048 .f32) (h : Fin 16) (i : Fin 2048) :
    maxs s (ix2 h i) = Finset.univ.fold max Heavy.bot (fun x => s (ix3 h i x)) := by
  pointwise [maxs]

theorem aboveBot_apply (M : FVec Ideal S16x2048 .f32) (h : Fin 16) (i : Fin 2048) : aboveBot M (ix2 h i) = M (ix2 h i) := by
  have e : aboveBot M (ix2 h i) = max Heavy.bot (M (ix2 h i)) := by pointwise [aboveBot]
  rw [e, Heavy.bot_eq, max_eq_right bot_le]

theorem expsLess_apply (s : FVec Ideal S16x2048x2048 .f32) (M : FVec Ideal S16x2048 .f32) (h : Fin 16) (i j : Fin 2048) :
    expsLess s M (ix3 h i j) = Ideal.exp (s (ix3 h i j) - M (ix2 h i)) := by
  pointwise [expsLess]

theorem overSums_apply (E : FVec Ideal S16x2048x2048 .f32) (h : Fin 16) (i j : Fin 2048) :
    overSums E (ix3 h i j) = Ideal.div (E (ix3 h i j)) (∑ x, E (ix3 h i x)) := by
  pointwise [overSums]

theorem softs_apply (s : FVec Ideal S16x2048x2048 .f32) (h : Fin 16) (i j : Fin 2048) :
    softs s (ix3 h i j) = Heavy.soft (fun j => s (ix3 h i j)) j := by
  unfold softs Heavy.soft
  rw [overSums_apply]
  simp only [expsLess_apply, aboveBot_apply, maxs_apply]

theorem startRows_apply (p : FVec Ideal S16x2048x2048 .f32) (h : Fin 16) (j : Fin 2048) :
    startRows p (ix2 h j) = Heavy.start (fun i j => p (ix3 h i j)) j := by
  pointwise [startRows]
  rw [cmpi_slt, select_ofBool, toInt_small _ j.isLt, show (204#32 : BitVec 32).toInt = 204 by decide]
  unfold Heavy.start
  by_cases hj : j.val < 204
  · rw [if_pos (by simpa using hj), if_pos hj]
  · rw [if_neg (by simpa using hj), if_neg hj]
    change Ideal.ofBits .f32 0#32 = 0
    simp [Ideal.ofBits, Ideal.ieee]

theorem ofBool_iff (p : Prop) [Decidable p] : BitVec.ofBool (decide p) = 1#1 ↔ p := by
  by_cases h : p <;> simp [h]

theorem mask0_apply (h : Fin 16) (i j : Fin 2048) : mask0 (ix3 h i j) = 1#1 ↔ j.val < 204 := by
  pointwise [mask0]
  rw [cmpi_slt, ofBool_iff, toInt_small _ j.isLt, show (204#32 : BitVec 32).toInt = 204 from rfl]
  omega

theorem ori_eq (x y : BitVec 1) : IntOp.ori x y = 1#1 ↔ x = 1#1 ∨ y = 1#1 := by
  revert x y; decide

theorem maskEnd_apply (k : IVec S16x2048x2048 1) (h : Fin 16) (i j : Fin 2048) :
    maskEnd k (ix3 h i j) = 1#1 ↔ (j.val ≤ i.val ∧ (k (ix3 h i j) = 1#1 ∨ i.val ≤ j.val + 204)) := by
  pointwise [maskEnd, near]
  rw [cmpi_sge, cmpi_sge, select_ofBool, select_ofBool, toInt_small _ j.isLt]
  change (if decide ((j.val : Int) ≤ (BitVec.ofNat 32 i.val + 0#32).toInt) then _ else _) = 1#1 ↔ _
  rw [BitVec.add_zero, toInt_small _ i.isLt]
  change (if _ then (IntOp.ori _ (if decide ((j.val : Int) ≤ (BitVec.ofNat 32 i.val + 4294967091#32).toInt) then _ else _)) else _) = 1#1 ↔ _
  rw [toInt_back _ i.isLt]
  by_cases h1 : j.val ≤ i.val
  · rw [if_pos (by simpa using h1), ori_eq]
    by_cases h2 : i.val ≤ j.val + 204
    · rw [if_neg (by simp; omega)]
      simp [h1, h2]
    · rw [if_pos (by simp; omega)]
      simp [h1, h2]
  · rw [if_neg (by simpa using h1)]
    simp [h1]

theorem keptScores_apply (k : IVec S16x2048x2048 1) (s : FVec Ideal S16x2048x2048 .f32) (h : Fin 16) (i j : Fin 2048) :
    keptScores k s (ix3 h i j) = if k (ix3 h i j) = 1#1 then s (ix3 h i j) else 0 := by
  pointwise [keptScores]
  have e : id (constant (F := Ideal) S_ FTy.f32 0#32) ix0 = (0 : EReal) := by
    change Ideal.ofBits .f32 0#32 = 0
    simp [Ideal.ofBits, Ideal.ieee]
  rw [e]
  rfl

theorem joined_apply (p : FVec Ideal S16x2048x2048 .f32) (v : FVec Ideal S16x2048x128 .f32) (i j : Fin 2048) :
    joined p v (ix2 i j) = ∑ x : Fin 2048, p (ix3 ⟨j.val / 128, by omega⟩ i x) * v (ix3 ⟨j.val / 128, by omega⟩ x ⟨j.val % 128, by omega⟩) := by
  pointwise [joined]

end Cert.ReferenceIdeal.Read

end
-- ==== Proof.RefTop.lean ====
/-
  The reference's loop, read entry by entry: the token's row, the columns of the greatest accumulated entries, the mask.
-/
module

public import proofs.«01_k».proof.Proof.RefRead
public import Idealize.ShloMosaic.Lib.Routing.OpsOrder

@[expose] public section

set_option maxRecDepth 16384

noncomputable section

namespace Cert.ReferenceIdeal.Read

open Idealize.ShloMosaic Idealize.ShloMosaic.TcCoe Idealize.SL.Sem Cert.ReferenceIdeal Cert.ReferenceIdeal.Gen Cert.ReferenceIdeal.Value
open Idealize.ShloMosaic.StableHlo

/-- The token of a trip. -/
def tokenOf (t : IVec S_ 32) : IVec S_ 32 := addi t (constantI S_ 32 204#32)

/-- The token as an index. -/
def startOf (T : IVec S_ 32) : Fin 3 → Int :=
  fun k => (((![constantI S_ 32 0#32, select (cmpi .slt T (constantI S_ 32 0#32)) (addi (id T) (constantI S_ 32 2048#32)) T, constantI S_ 32 0#32] : Fin 3 → (⟨S_, .i32⟩ : BufTy).Contents (Elt Ideal)))
    k (Shape.Idx.first h_S_)).toInt

/-- The token's rows. -/
def rowsAt (p : FVec Ideal S16x2048x2048 .f32) (T : IVec S_ 32) : FVec Ideal S16x2048 .f32 :=
  shapeCast S16x2048 (Host.dynamicSlice S16x1x2048 p (startOf T) sliceFits_S16x2048x2048_S16x1x2048) shapeCasts_S16x1x2048_S16x2048

/-- The columns of the greatest entries. -/
def topOf (acc : FVec Ideal S16x2048 .f32) : IVec S16x203 32 := (Host.topK S16x203 1 (FloatOps.cmpfTotal .gt) acc sliceFits_S16x2048_S16x203).2

/-- Which columns a list of columns has. -/
def anyOf (l : IVec S16x203 32) : IVec S16x2048 1 :=
  Host.reduce IntOp.ori (cmpi .eq (broadcastInDim S16x203x2048 ![0, 1, 2] bcast_S16x203x1_S16x203x2048_0_1_2 (broadcastInDim S16x203x1 ![0, 1] bcast_S16x203_S16x203x1_0_1 l))
    (broadcastInDim S16x203x2048 ![0, 1, 2] bcast_S1x1x2048_S16x203x2048_0_1_2 (iotaInDim S1x1x2048 32 2))) (constantI S_ 1 0#1) reducesTo_S16x203x2048_S16x2048_d1 h_S_

/-- Which column is the token. -/
def isToken (T : IVec S_ 32) : IVec S16x2048 1 :=
  broadcastInDim S16x2048 ![0, 1] bcast_S1x2048_S16x2048_0_1 (cmpi .eq (broadcastInDim S1x2048 ![1] bcast_S2048_S1x2048_1 (iotaInDim S2048 32 0)) (broadcastInDim S1x2048 ![] bcast_S_S1x2048 (id T)))

/-- The mask's rows of a trip. -/
def keepOf (acc : FVec Ideal S16x2048 .f32) (T : IVec S_ 32) : IVec S16x2048 1 := ori (anyOf (topOf acc)) (isToken T)

/-- The accumulated rows after a trip. -/
def accOf (acc r : FVec Ideal S16x2048 .f32) (k : IVec S16x2048 1) : FVec Ideal S16x2048 .f32 := mulf (addf acc r) (uitofp .f32 k)

/-- The mask after a trip. -/
def maskOf (M : IVec S16x2048x2048 1) (k : IVec S16x2048 1) (T : IVec S_ 32) : IVec S16x2048x2048 1 :=
  Host.dynamicUpdateSlice M (broadcastInDim S16x1x2048 ![0, 2] bcast_S16x2048_S16x1x2048_0_2 k) (startOf T) updateFits_S16x2048x2048_S16x1x2048

variable (V : Valuation τ sig (Elt Ideal))

theorem step_2 : STEP V (Proc.devRef .tc main_v38_2) = addi (V (Proc.devRef .tc main_v38_2)) (constantI S_ 32 1#32) := STEP_main_v38_2 V

theorem step_3 : STEP V (Proc.devRef .tc main_v38_3) = accOf (V (Proc.devRef .tc main_v38_3)) (rowsAt (V (Proc.devRef .tc main_v38_0)) (tokenOf (V (Proc.devRef .tc main_v38_2))))
    (keepOf (V (Proc.devRef .tc main_v38_3)) (tokenOf (V (Proc.devRef .tc main_v38_2)))) := STEP_main_v38_3 V

theorem step_4 : STEP V (Proc.devRef .tc main_v38_4) = maskOf (V (Proc.devRef .tc main_v38_4))
    (keepOf (V (Proc.devRef .tc main_v38_3)) (tokenOf (V (Proc.devRef .tc main_v38_2)))) (tokenOf (V (Proc.devRef .tc main_v38_2))) := STEP_main_v38_4 V

theorem accOf_apply (acc r : FVec Ideal S16x2048 .f32) (k : IVec S16x2048 1) (h : Fin 16) (j : Fin 2048) :
    accOf acc r k (ix2 h j) = (acc (ix2 h j) + r (ix2 h j)) * (((k (ix2 h j)).toNat : ℝ) : EReal) := by
  pointwise [accOf]
  rfl

theorem cmpi_eq_ofNat (a b : Nat) (ha : a < 2048) (hb : b < 2048) :
    IntOp.cmpi .eq (BitVec.ofNat 32 a) (BitVec.ofNat 32 b) = 1#1 ↔ a = b := by
  change BitVec.ofBool (BitVec.ofNat 32 a == BitVec.ofNat 32 b) = 1#1 ↔ _
  rw [beq_eq_decide, ofBool_iff]
  constructor
  · intro h
    have h' := congrArg BitVec.toNat h
    rw [BitVec.toNat_ofNat, BitVec.toNat_ofNat] at h'
    omega
  · rintro rfl
    rfl

theorem cmpi_eq_iff (x y : BitVec 32) : IntOp.cmpi .eq x y = 1#1 ↔ x = y := by
  change BitVec.ofBool (x == y) = 1#1 ↔ _
  rw [beq_eq_decide, ofBool_iff]

theorem keepOf_apply (acc : FVec Ideal S16x2048 .f32) (T : IVec S_ 32) (n : Nat) (hn : n < 2048) (hT : T = fun _ => BitVec.ofNat 32 n) (h : Fin 16) (j : Fin 2048) :
    keepOf acc T (ix2 h j) = 1#1 ↔ anyOf (topOf acc) (ix2 h j) = 1#1 ∨ j.val = n := by
  unfold keepOf isToken
  generalize anyOf (topOf acc) = A
  subst hT
  pointwise
  rw [ori_eq]
  exact or_congr Iff.rfl (cmpi_eq_ofNat _ _ j.isLt hn)

theorem anyOf_apply (l : IVec S16x203 32) (h : Fin 16) (j : Fin 2048) :
    anyOf l (ix2 h j) = 1#1 ↔ ∃ k : Fin 203, l (ix2 h k) = BitVec.ofNat 32 j.val := by
  pointwise [anyOf]
  rw [Routing.fold_ori]
  exact ⟨fun ⟨x, _, e⟩ => ⟨x, (cmpi_eq_iff _ _).mp e⟩, fun ⟨x, e⟩ => ⟨x, Finset.mem_univ _, (cmpi_eq_iff _ _).mpr e⟩⟩

theorem startOf_token (T : IVec S_ 32) (n : Nat) (hn : n < 2048) (hT : T = fun _ => BitVec.ofNat 32 n) : startOf T = ![0, (n : Int), 0] := by
  subst hT
  funext k
  fin_cases k
  · rfl
  · change (Scalar.select (IntOp.cmpi .slt (BitVec.ofNat 32 n) 0#32) _ (BitVec.ofNat 32 n)).toInt = _
    rw [cmpi_slt, select_ofBool, toInt_small n hn, if_neg, toInt_small n hn]
    · rfl
    · simp
  · rfl

theorem clamped (n : Nat) (hn : n < 2048) (ht : S16x1x2048.rank = S16x2048x2048.rank) :
    Host.clampedStart S16x2048x2048 S16x1x2048 ht ![0, (n : Int), 0] 0 = 0
    ∧ Host.clampedStart S16x2048x2048 S16x1x2048 ht ![0, (n : Int), 0] 1 = n
    ∧ Host.clampedStart S16x2048x2048 S16x1x2048 ht ![0, (n : Int), 0] 2 = 0 := by
  refine ⟨?_, ?_, ?_⟩
  · rfl
  · change (min (max (n : Int) 0) ((2048 - 1 : Nat) : Int)).toNat = n
    omega
  · rfl

theorem rowsAt_apply (p : FVec Ideal S16x2048x2048 .f32) (T : IVec S_ 32) (n : Nat) (hn : n < 2048) (hT : T = fun _ => BitVec.ofNat 32 n) (h : Fin 16) (j : Fin 2048) :
    rowsAt p T (ix2 h j) = p (ix3 h ⟨n, hn⟩ j) := by
  unfold rowsAt
  rw [startOf_token T n hn hT]
  obtain ⟨h0, h1, h2⟩ := clamped n hn rfl
  generalize (![0, (n : Int), 0] : Fin 3 → Int) = s at *
  pointwise
  refine congrArg p ?_
  congr 1
  · exact Fin.ext (by change _ + _ = _; rw [h0]; omega)
  · exact Fin.ext h1
  · exact Fin.ext (by change _ + _ = _; rw [h2]; omega)

theorem maskOf_apply (M : IVec S16x2048x2048 1) (k : IVec S16x2048 1) (T : IVec S_ 32) (n : Nat) (hn : n < 2048) (hT : T = fun _ => BitVec.ofNat 32 n)
    (h : Fin 16) (i j : Fin 2048) :
    maskOf M k T (ix3 h i j) = if i.val = n then k (ix2 h j) else M (ix3 h i j) := by
  unfold maskOf
  rw [startOf_token T n hn hT]
  obtain ⟨h0, h1, h2⟩ := clamped n hn rfl
  generalize (![0, (n : Int), 0] : Fin 3 → Int) = s at *
  pointwise
  by_cases e : i.val = n
  · rw [if_pos e, dif_pos]
    · refine congrArg k ?_
      congr 1
      · exact Fin.ext (by change _ - _ = _; rw [h0]; omega)
      · exact Fin.ext (by change _ - _ = _; rw [h2]; omega)
    · rw [h0, h1, h2]
      omega
  · rw [if_neg e, dif_neg]
    rw [h0, h1, h2]
    omega

/-- The second result of a sort of rows. -/
theorem sort_second {α β : Type} (cmp : α × β → α × β → BitVec 1) (x : S16x2048.Idx → α) (y : S16x2048.Idx → β) (j : S16x2048.Idx) :
    (Host.sort2 S16x2048 1 cmp x y).2 j
      = y (j.along 1 (sortedFrom (fun k k' => cmp (x (j.along 1 k), y (j.along 1 k)) (x (j.along 1 k'), y (j.along 1 k')) == 1#1) (j 1))) := rfl

/-- The columns in the order of a row's entries. -/
theorem sort_columns (acc : FVec Ideal S16x2048 .f32) (h : Fin 16) (k : Fin 2048) :
    (Host.sort2 S16x2048 1 (fun l r => FloatOps.cmpfTotal .gt l.1 r.1) acc fun i => BitVec.ofNat 32 (i 1).val).2 (ix2 h k)
      = BitVec.ofNat 32 (Evict.ranked (fun j => acc (ix2 h j)) k).val := by
  have e (x : Fin 2048) : Shape.Idx.along (ix2 h k : S16x2048.Idx) 1 x = ix2 h x := by
    funext a
    fin_cases a
    · rfl
    · rfl
  refine (sort_second _ _ _ _).trans ((congrArg (fun y : S16x2048.Idx => BitVec.ofNat 32 (y 1).val) (e _)).trans ?_)
  refine congrArg (fun f => BitVec.ofNat 32 (sortedFrom (n := 2048) f k).val) ?_
  funext x x'
  refine (congrArg₂ (fun y y' : S16x2048.Idx => BitVec.ofBool (decide (acc y' < acc y)) == 1#1) (e x) (e x')).trans ?_
  change (BitVec.ofBool (decide (acc (ix2 h x') < acc (ix2 h x))) == 1#1) = _
  cases decide (acc (ix2 h x') < acc (ix2 h x)) <;> rfl

/-- The columns of the greatest entries are the first of the ranking. -/
theorem topOf_apply (acc : FVec Ideal S16x2048 .f32) (h : Fin 16) (k : Fin 203) :
    topOf acc (ix2 h k) = BitVec.ofNat 32 (Evict.ranked (fun j => acc (ix2 h j)) ⟨k.val, by omega⟩).val := by
  pointwise [topOf, Host.topK]
  exact sort_columns acc h ⟨k.val, by omega⟩

end Cert.ReferenceIdeal.Read

end
-- ==== Proof.RefLoop.lean ====
/-
  The reference's loop after any number of trips: the accumulated rows and the mask.
-/
module

public import proofs.«01_k».proof.Proof.RefTop
public import proofs.«01_k».proof.Proof.Spec

@[expose] public section

set_option maxRecDepth 16384

noncomputable section

namespace Cert.ReferenceIdeal.Read

open Idealize.ShloMosaic Idealize.ShloMosaic.TcCoe Idealize.SL.Sem Cert.ReferenceIdeal Cert.ReferenceIdeal.Gen Cert.ReferenceIdeal.Value
open Idealize.ShloMosaic.StableHlo

attribute [local irreducible] Heavy.accs

/-- The columns with a place among the first 203 are the kept ones. -/
theorem keep_iff (acc : FVec Ideal S16x2048 .f32) (T : IVec S_ 32) (n : Nat) (hn : n < 2048) (hT : T = fun _ => BitVec.ofNat 32 n) (h : Fin 16) (j : Fin 2048)
    (g : Evict.Good 204 (fun j => acc (ix2 h j)) n) :
    keepOf acc T (ix2 h j) = 1#1 ↔ (Evict.Kept (fun j => acc (ix2 h j)) j ∨ j.val = n) := by
  rw [keepOf_apply acc T n hn hT, anyOf_apply]
  refine or_congr (Iff.trans ?_ (Evict.ranked_iff_kept (c := 203) g j)) Iff.rfl
  constructor
  · rintro ⟨k, e⟩
    rw [topOf_apply] at e
    refine ⟨⟨k.val, by omega⟩, k.isLt, Fin.ext ?_⟩
    have e' := congrArg BitVec.toNat e
    rw [BitVec.toNat_ofNat, BitVec.toNat_ofNat] at e'
    have h1 := (Evict.ranked (fun j => acc (ix2 h j)) ⟨k.val, by omega⟩).isLt
    omega
  · rintro ⟨k, hk, rfl⟩
    exact ⟨⟨k.val, hk⟩, topOf_apply acc h ⟨k.val, hk⟩⟩

/-- An accumulated row after a trip. -/
theorem acc_next (acc r : FVec Ideal S16x2048 .f32) (K : IVec S16x2048 1) (n : Nat) (h : Fin 16) (j : Fin 2048)
    (hK : K (ix2 h j) = 1#1 ↔ (Evict.Kept (fun j => acc (ix2 h j)) j ∨ j.val = n)) :
    accOf acc r K (ix2 h j) = Evict.next (fun j => r (ix2 h j)) (fun j => acc (ix2 h j)) n j := by
  rw [accOf_apply]
  unfold Evict.next
  refine congrArg (fun x : EReal => (acc (ix2 h j) + r (ix2 h j)) * x) ?_
  by_cases e : Evict.Kept (fun j => acc (ix2 h j)) j ∨ j.val = n
  · rw [if_pos e, hK.mpr e]
    simp
  · rw [if_neg e, (BitVec.eq_zero_or_eq_one _).resolve_right (fun e' => e (hK.mp e'))]
    simp

/-- A head's probabilities. -/
abbrev headP (p : FVec Ideal S16x2048x2048 .f32) (h : Fin 16) : Fin 2048 → Heavy.Row := fun i j => p (ix3 h i j)

/-- The state before trip `k`. -/
structure State (p : FVec Ideal S16x2048x2048 .f32) (V : Valuation τ sig (Elt Ideal)) (k : Nat) : Prop where
  rows : V (Proc.devRef .tc main_v38_0) = p
  trip : V (Proc.devRef .tc main_v38_2) = fun _ => BitVec.ofNat 32 k
  acc : ∀ h j, V (Proc.devRef .tc main_v38_3) (ix2 h j) = Heavy.accs (headP p h) k j
  mask : ∀ h i j, V (Proc.devRef .tc main_v38_4) (ix3 h i j) = 1#1 ↔
    if 204 ≤ i.val ∧ i.val < 204 + k then (Evict.Kept (Heavy.accs (headP p h) (i.val - 204)) j ∨ j.val = i.val) else j.val < 204

theorem token_eq (k : Nat) : tokenOf (fun _ => BitVec.ofNat 32 k) = fun _ => BitVec.ofNat 32 (204 + k) := by
  funext x
  change BitVec.ofNat 32 k + BitVec.ofNat 32 204 = _
  rw [← BitVec.ofNat_add, Nat.add_comm]

theorem State.step {p : FVec Ideal S16x2048x2048 .f32} {V : Valuation τ sig (Elt Ideal)} {k : Nat} (hk : k < 1844) (s : State p V k)
    (hp : ∀ h i j, ∃ r : ℝ, 0 < r ∧ headP p h i j = r) : State p (STEP V) (k + 1) := by
  obtain ⟨s0, s2, s3, s4⟩ := s
  have e (h : Fin 16) : (fun j => V (Proc.devRef .tc main_v38_3) (ix2 h j)) = Heavy.accs (headP p h) k := funext (s3 h)
  have hK (h : Fin 16) (j : Fin 2048) := keep_iff (V (Proc.devRef .tc main_v38_3)) _ (204 + k) (by omega) (token_eq k) h j
    (by rw [e h]; exact Heavy.good_accs _ (hp h) k hk.le)
  refine ⟨?_, ?_, fun h j => ?_, fun h i j => ?_⟩
  · rw [STEP_main_v38_0]
    exact s0
  · rw [step_2, s2]
    funext x
    change BitVec.ofNat 32 k + BitVec.ofNat 32 1 = _
    rw [← BitVec.ofNat_add]
  · rw [step_3, s0, s2]
    refine (acc_next _ _ _ (204 + k) h j (hK h j)).trans ?_
    rw [e h, Heavy.accs_succ]
    refine congrArg (fun r => Evict.next r _ _ j) (funext fun x => ?_)
    refine (rowsAt_apply p _ (204 + k) (by omega) (token_eq k) h x).trans ?_
    refine congrArg (fun i => p (ix3 h i x)) (Fin.ext ?_)
    exact (Nat.mod_eq_of_lt (by omega)).symm
  · rw [step_4, s2]
    refine (iff_of_eq (congrArg (· = 1#1) (maskOf_apply (V (Proc.devRef .tc main_v38_4))
      (keepOf (V (Proc.devRef .tc main_v38_3)) (tokenOf fun _ => BitVec.ofNat 32 k)) _ (204 + k) (by omega) (token_eq k) h i j))).trans ?_
    by_cases hi : i.val = 204 + k
    · rw [if_pos hi, hK h j, e h, if_pos (by omega), hi, Nat.add_sub_cancel_left]
    · rw [if_neg hi, s4 h i j]
      by_cases h' : 204 ≤ i.val ∧ i.val < 204 + k
      · rw [if_pos h', if_pos (by omega)]
      · rw [if_neg h', if_neg (by omega)]

theorem State.iterate {p : FVec Ideal S16x2048x2048 .f32} {V : Valuation τ sig (Elt Ideal)} (s : State p V 0)
    (hp : ∀ h i j, ∃ r : ℝ, 0 < r ∧ headP p h i j = r) (k : Nat) (hk : k ≤ 1844) : State p (STEP^[k] V) k := by
  induction k with
  | zero => exact s
  | succ k ih =>
    rw [Function.iterate_succ_apply']
    exact (ih (by omega)).step (by omega) hp

/-- The mask of the last lines keeps what the kernel keeps. -/
theorem State.keep {p : FVec Ideal S16x2048x2048 .f32} {V : Valuation τ sig (Elt Ideal)} (s : State p V 1844) (h : Fin 16) (i j : Fin 2048) :
    maskEnd (V (Proc.devRef .tc main_v38_4)) (ix3 h i j) = 1#1 ↔ Heavy.Keep (headP p h) i j := by
  rw [maskEnd_apply, s.mask h i j]
  unfold Heavy.Keep
  refine and_congr_right fun hj => ?_
  by_cases hi : 204 ≤ i.val ∧ i.val < 204 + 1844
  · rw [if_pos hi]
    constructor
    · rintro ((h' | h') | h')
      · exact Or.inr ⟨hi.1, h'⟩
      · exact Or.inl (by omega)
      · exact Or.inl h'
    · rintro (h' | h')
      · exact Or.inr h'
      · exact Or.inl (Or.inl h'.2)
  · rw [if_neg hi]
    constructor
    · intro _
      exact Or.inl (by omega)
    · intro _
      exact Or.inr (by omega)

end Cert.ReferenceIdeal.Read

end
-- ==== Proof.RefValue.lean ====
/-
  The array the reference returns: all heads' results of the packed array, when every entry is a real number.
-/
module

public import proofs.«01_k».proof.Proof.RefLoop
public import Idealize.ShloMosaic.Lib.Quiescent

@[expose] public section

set_option maxRecDepth 16384

noncomputable section

namespace Cert.ReferenceIdeal.Read

open Idealize.ShloMosaic Idealize.ShloMosaic.TcCoe Idealize.SL.Sem Cert.ReferenceIdeal Cert.ReferenceIdeal.Gen Cert.ReferenceIdeal.Value
open Idealize.ShloMosaic.StableHlo

attribute [local irreducible] Heavy.accs

section Arrays

variable (X : FVec Ideal S2048x6144 .f32)

/-- A head's scores. -/
theorem head_scores (h : Fin 16) (i j : Fin 2048) :
    scores (qs X) (ks X) (ix3 h i j) = Heavy.score (Heavy.headQ X h) (Heavy.headK X h) i j := by
  rw [scores_apply]
  refine congrArg₂ (fun q k => Heavy.score q k i j) ?_ ?_
  · exact funext fun i => funext fun x => qs_apply X h i x
  · exact funext fun i => funext fun x => ks_apply X h i x

/-- A head's probabilities. -/
theorem head_probs (h : Fin 16) :
    headP (softs (scores (qs X) (ks X))) h = fun i => Heavy.soft (Heavy.score (Heavy.headQ X h) (Heavy.headK X h) i) := by
  funext i j
  refine (softs_apply _ h i j).trans ?_
  exact congrArg (fun s => Heavy.soft s j) (funext fun x => head_scores X h i x)

variable (hX : ∀ y, ∃ r : ℝ, X y = r)

include hX in
theorem probs_real (h : Fin 16) (i j : Fin 2048) : ∃ r : ℝ, 0 < r ∧ headP (softs (scores (qs X) (ks X))) h i j = r := by
  rw [head_probs X h]
  exact Heavy.soft_real _ (fun x => Heavy.score_real _ _ (fun _ _ => hX _) (fun _ _ => hX _) i x) j

/-- The result of a mask that keeps what the kernel keeps. -/
theorem joined_eq (K : IVec S16x2048x2048 1)
    (hK : ∀ h i j, K (ix3 h i j) = 1#1 ↔ Heavy.Keep (headP (softs (scores (qs X) (ks X))) h) i j) (i j : Fin 2048) :
    joined (softs (keptScores K (scores (qs X) (ks X)))) (vs X) (ix2 i j) = Heavy.attn X (ix2 i j) := by
  rw [joined_apply]
  change _ = ∑ x, Heavy.soft (Heavy.maskedScore (Heavy.headQ X ⟨j.val / 128, _⟩) (Heavy.headK X ⟨j.val / 128, _⟩) i) x * Heavy.headV X ⟨j.val / 128, _⟩ x ⟨j.val % 128, _⟩
  refine Finset.sum_congr rfl fun x _ => ?_
  refine congrArg₂ (fun a b : EReal => a * b) ?_ (vs_apply X _ x _)
  refine (softs_apply _ _ i x).trans ?_
  refine congrArg (fun s => Heavy.soft s x) (funext fun y => ?_)
  refine (keptScores_apply _ _ _ i y).trans ?_
  rw [head_scores]
  unfold Heavy.maskedScore
  have hk : K (ix3 ⟨j.val / 128, by omega⟩ i y) = 1#1 ↔ Heavy.Keep (fun i => Heavy.soft (Heavy.score (Heavy.headQ X ⟨j.val / 128, by omega⟩)
      (Heavy.headK X ⟨j.val / 128, by omega⟩) i)) i y := by rw [hK, head_probs X]
  split
  · next e => exact (if_pos (hk.mp e)).symm
  · next e => exact (if_neg fun e' => e (hk.mpr e')).symm

end Arrays

variable (m : (ℓ : Loc nD τ sig) → Buf (Elt Ideal) ℓ) (c : Dev nD)

/-- The state before the first trip. -/
theorem state_entry : State (softs (allScores m c)) (entryContents (preI (F := Ideal)) m c) 0 where
  rows := entry_v38_0 m c
  trip := entry_v38_2 m c
  acc h j := by
    rw [entry_v38_3]
    refine (startRows_apply _ h j).trans ?_
    unfold Heavy.accs
    rfl
  mask h i j := by
    rw [entry_v38_4, if_neg (by omega)]
    exact mask0_apply h i j

theorem result_eq (hX : ∀ y, ∃ r : ℝ, arg m c y = r) :
    finalContents (condOps (F := Ideal)) preI bodyI postI 1844 m c (Proc.devRef .tc main_v57) = Heavy.attn (arg m c) := by
  rw [final_v57]
  funext y
  obtain ⟨i, j, rfl⟩ : ∃ (i j : Fin 2048), y = ix2 i j := ⟨y 0, y 1, by funext a; match a with | ⟨0, _⟩ => rfl | ⟨1, _⟩ => rfl⟩
  refine joined_eq (arg m c) _ (fun h i j => ?_) i j
  exact ((state_entry m c).iterate (fun h => probs_real (arg m c) hX h) 1844 le_rfl).keep h i j

/-- Every run of the reference ends with its argument as launched and its counters at zero. -/
theorem unchanged (m : (ℓ : Loc nD τ sig) → Buf (Elt Ideal) ℓ) (ρ : Dev nD → PrngReg) :
    θ_run (defs (F := Ideal)) (onTc (τ := τ) (main (F := Ideal))) ⟨m, fun _ => 0, ρ⟩ (fun r =>
      (∀ c : Dev nD, r.2.mem ((c.tc : Thread nD τ).loc main_arg0) = m ((c.tc : Thread nD τ).loc main_arg0)) ∧ r.2.sem = fun _ => 0) :=
  (θ_run defs _ _).mono (fun r h => ⟨fun c => (h c main_arg0 (by decide)).trans (final_arg0 m c), sem_eq_zero_of_no_sems (by decide) r.2⟩) (run_fold m ρ)

/-- Every run of the reference from real numbers ends with all heads' results. -/
theorem run_value (m : (ℓ : Loc nD τ sig) → Buf (Elt Ideal) ℓ) (ρ : Dev nD → PrngReg) (hX : ∀ c y, ∃ r : ℝ, arg m c y = r) :
    θ_run (defs (F := Ideal)) (onTc (τ := τ) (main (F := Ideal))) ⟨m, fun _ => 0, ρ⟩ (fun r => ∀ c : Dev nD,
      r.2.mem ((c.tc : Thread nD τ).loc main_v57) = Heavy.attn (arg m c)
        ∧ r.2.mem ((c.tc : Thread nD τ).loc main_arg0) = m ((c.tc : Thread nD τ).loc main_arg0)) :=
  (θ_run defs _ _).mono (fun _ h c => ⟨(h c main_v57 (by decide)).trans (result_eq m c (hX c)), (h c main_arg0 (by decide)).trans (final_arg0 m c)⟩) (run_fold m ρ)

end Cert.ReferenceIdeal.Read

end
-- ==== Proof.Finite.lean ====
/-
  The precondition: every entry is below infinity in absolute value, so it is a real number.
-/
module

public import proofs.«01_k».proof.Proof.Gen.Pre_finite
public import Idealize.ShloMosaic.Lib.ReduceAll
public import Idealize.ShloMosaic.Lib.Pointwise

@[expose] public section

set_option maxRecDepth 16384

noncomputable section

namespace Cert.Pre_finite.Read

open Idealize.ShloMosaic Cert.Pre_finite Cert.Pre_finite.Gen

/-- The bit of an entry. -/
def below (X : FVec Ideal S2048x6144 .f32) : IVec S2048x6144 1 :=
  cmpf .olt (Host.absf X) (broadcastInDim S2048x6144 ![] bcast_S_S2048x6144 (constant S_ .f32 0x7F800000#32))

theorem below_apply (X : FVec Ideal S2048x6144 .f32) (y : S2048x6144.Idx) :
    below X y = BitVec.ofBool (decide (max (X y) (-X y) < Ideal.ofBits .f32 0x7F800000#32)) := rfl

theorem fn_eq (X : FVec Ideal S2048x6144 .f32) :
    fn (F := Ideal) X = Host.reduce IntOp.andi (below X) (constantI S_ 1 1#1) reducesTo_S2048x6144_S_d0_1 h_S_ := rfl

theorem inf_eq : Ideal.ofBits .f32 0x7F800000#32 = ⊤ := by simp [Ideal.ofBits, Ideal.ieee]

/-- An extended real that is not an infinity is real. -/
theorem real_of_abs {x : EReal} (h : max x (-x) < ⊤) : ∃ r : ℝ, x = r := by
  induction x using EReal.rec with
  | bot => exact absurd h (by simp)
  | coe r => exact ⟨r, rfl⟩
  | top => exact absurd h (by simp)

theorem real_of_pre (X : FVec Ideal S2048x6144 .f32) (h : fn (F := Ideal) X = fun _ => 1#1) (y : S2048x6144.Idx) : ∃ r : ℝ, X y = r := by
  have : Subsingleton S_.Idx := ⟨fun a b => funext fun k => k.elim0⟩
  rw [fn_eq] at h
  have e' := Host.reduce_andi_all (below X) _ reducesTo_S2048x6144_S_d0_1 h_S_ ix0 (congrFun h ix0) y
  rw [below_apply] at e'
  rw [inf_eq] at e'
  refine real_of_abs ?_
  by_contra hc
  rw [decide_eq_false hc] at e'
  exact absurd e' (by decide)

end Cert.Pre_finite.Read

end
-- ==== Proof.OutCall.lean ====
/-
  The projection of the joined heads: block by block the kernel leaves each row's product with each row of the weights,
  which is what the reference computes in one product.
-/
module

public import proofs.«01_k».proof.Proof.Gen.Kernel3Ideal.Value
public import proofs.«01_k».proof.Proof.Gen.Reference3Ideal.Run
public import proofs.«01_k».proof.Proof.Heads
public import Idealize.ShloMosaic.Lib.Pipeline.ValueKit.Basic

@[expose] public section

set_option maxRecDepth 16384

noncomputable section

namespace Cert.Kernel3Ideal.Out

open Idealize.ShloMosaic Idealize.ShloMosaic.TcCoe Idealize.SL.Sem Cert.Kernel3Ideal Cert.Kernel3Ideal.Gen Cert.Kernel3Ideal.Value

/-- A square array of the projection. -/
abbrev Sq := FVec Ideal S2048x2048 .f32

/-- A place in a matrix is the pair of its coordinates. -/
theorem at_coords {a b : Nat} (y : (⟨2, ![a, b]⟩ : Shape).Idx) : y = ix2 (y 0) (y 1) := by
  funext d
  match d with
  | ⟨0, _⟩ => rfl
  | ⟨1, _⟩ => rfl

/-- Every row of `X` against every row of `W`. -/
def rowsByRows (X W : Sq) : Sq := fun y => ∑ k : Fin 2048, X (ix2 (y 0) k) * W (ix2 (y 1) k)

theorem out_apply (x0 : Vec Ideal S256x2048 .f32) (x1 : Vec Ideal S2048x1024 .f32) (p : Fin 256) (q : Fin 1024) :
    out0_2 x0 x1 (ix2 p q) = ∑ k : Fin 2048, x0 (ix2 p k) * x1 (ix2 k q) := by
  have e : out0_2 x0 x1 = k0_pay1 x0 x1 := by
    unfold out0_2
    rw [View.canon_cons_unit_lit _ _ _ (by decide), View.ld_unit_lit _ x0 (by decide), View.ld_unit_lit _ x1 (by decide)]
  rw [e]
  pointwise [k0_pay1]

variable (m : (ℓ : Loc nD τ sig) → Buf (Elt Ideal) ℓ) (c : Dev nD)

abbrev heads : Sq := m ((c : Thread nD τ).loc main_arg0)
abbrev weights : Sq := m ((c : Thread nD τ).loc main_arg1)

theorem V_v0 : V m c main_v0 = transpose S2048x2048 [1, 0] (weights m c) transposes_S2048x2048_S2048x2048_1_0 := by
  unfold V
  simp only [hostOps0]
  after_results

theorem turned_apply (W : Sq) (i j : Fin 2048) :
    transpose S2048x2048 [1, 0] W transposes_S2048x2048_S2048x2048_1_0 (ix2 i j) = W (ix2 j i) := by
  pointwise []

theorem at0 : ∀ t : Fin grid0.N, win0_0.index t (0 : Fin 2) = t.val % 8 ∧ win0_0.index t (1 : Fin 2) = 0 := by decide +kernel
theorem at1 : ∀ t : Fin grid0.N, win0_1.index t (0 : Fin 2) = 0 ∧ win0_1.index t (1 : Fin 2) = t.val / 8 := by decide +kernel
theorem at2 : ∀ t : Fin grid0.N, win0_2.index t (0 : Fin 2) = t.val % 8 ∧ win0_2.index t (1 : Fin 2) = t.val / 8 := by decide +kernel

/-- The row and the column of the whole array that a place in point `t`'s block has. -/
def rowAt (t : Fin cfg0.N) (p : Fin 256) : Fin 2048 := ⟨256 * (t.val % 8) + p.val, by omega⟩
def colAt (t : Fin cfg0.N) (q : Fin 1024) : Fin 2048 :=
  ⟨1024 * (t.val / 8) + q.val, by have h := lt_of_lt_of_eq t.isLt (show cfg0.N = 16 from N_0); omega⟩

theorem iblk0 (t : Fin cfg0.N) (p : Fin 256) (k : Fin 2048) : iblk m c 0 t (ix2 p k) = heads m c (ix2 (rowAt t p) k) := by
  obtain ⟨e0, e1⟩ := at0 t
  change V m c main_arg0 (((cfg0.win 0).blk t).view.emb (ix2 p k)) = _
  rw [V_main_arg0]
  refine congrArg (heads m c) (funext fun a => Fin.ext ?_)
  match a with
  | ⟨0, _⟩ =>
    change win0_0.index t (0 : Fin 2) * 256 + 1 * p.val = 256 * (t.val % 8) + p.val
    rw [e0]; omega
  | ⟨1, _⟩ =>
    change win0_0.index t (1 : Fin 2) * 2048 + 1 * k.val = k.val
    rw [e1]; omega

theorem iblk1 (t : Fin cfg0.N) (k : Fin 2048) (q : Fin 1024) : iblk m c 1 t (ix2 k q) = weights m c (ix2 (colAt t q) k) := by
  obtain ⟨e0, e1⟩ := at1 t
  change V m c main_v0 (((cfg0.win 1).blk t).view.emb (ix2 k q)) = _
  rw [V_v0, ← turned_apply (weights m c) k (colAt t q)]
  refine congrArg (transpose S2048x2048 [1, 0] (weights m c) transposes_S2048x2048_S2048x2048_1_0) (funext fun a => Fin.ext ?_)
  match a with
  | ⟨0, _⟩ =>
    change win0_1.index t (0 : Fin 2) * 2048 + 1 * k.val = k.val
    rw [e0]; omega
  | ⟨1, _⟩ =>
    change win0_1.index t (1 : Fin 2) * 1024 + 1 * q.val = 1024 * (t.val / 8) + q.val
    rw [e1]; omega

theorem emb2 (t : Fin cfg0.N) (p : Fin 256) (q : Fin 1024) : ((cfg0.win 2).blk t).view.emb (ix2 p q) = ix2 (rowAt t p) (colAt t q) := by
  obtain ⟨e0, e1⟩ := at2 t
  funext a
  refine Fin.ext ?_
  match a with
  | ⟨0, _⟩ =>
    change win0_2.index t (0 : Fin 2) * 256 + 1 * p.val = 256 * (t.val % 8) + p.val
    rw [e0]; omega
  | ⟨1, _⟩ =>
    change win0_2.index t (1 : Fin 2) * 1024 + 1 * q.val = 1024 * (t.val / 8) + q.val
    rw [e1]; omega

/-- Every block written back is its block of the product. -/
theorem written (t : Fin cfg0.N) :
    (dats m 0 c).flushed 2 t = ((cfg0.win 2).blk t).view.read (Elt Ideal) (rowsByRows (heads m c) (weights m c)) := by
  rw [flushed2]
  funext y
  rw [show y = ix2 (y 0) (y 1) from at_coords y]
  change out0_2 (iblk m c 0 t) (iblk m c 1 t) (ix2 (y 0) (y 1)) = rowsByRows (heads m c) (weights m c) (((cfg0.win 2).blk t).view.emb (ix2 (y 0) (y 1)))
  refine (out_apply (iblk m c 0 t) (iblk m c 1 t) (y 0) (y 1)).trans ?_
  refine Eq.trans ?_ (congrArg (rowsByRows (heads m c) (weights m c)) (emb2 t (y 0) (y 1))).symm
  unfold rowsByRows
  exact Finset.sum_congr rfl fun k _ => congrArg₂ (· * ·) (iblk0 m c t (y 0) k) (iblk1 m c t k (y 1))

/-- The point whose block holds an element. -/
def pointOf (y : S2048x2048.Idx) : Fin cfg0.N := ⟨8 * ((y 1).val / 1024) + (y 0).val / 256, by
  have h0 : (y 0).val < 2048 := (y 0).isLt
  have h1 : (y 1).val < 2048 := (y 1).isLt
  exact lt_of_lt_of_eq (by omega) (show 16 = cfg0.N from N_0.symm)⟩

theorem reached (y : S2048x2048.Idx) : ∃ t : Fin cfg0.N, (cfg0.win 2).flush t = true ∧ y ∈ ((cfg0.win 2).blk t).view.set := by
  have h0 : (y 0).val < 2048 := (y 0).isLt
  have h1 : (y 1).val < 2048 := (y 1).isLt
  refine ⟨pointOf y, (by decide +kernel : ∀ t : Fin grid0.N, win0_2.flush t = true) _, ?_⟩
  obtain ⟨e0, e1⟩ := at2 (pointOf y)
  have ep : (pointOf y).val = 8 * ((y 1).val / 1024) + (y 0).val / 256 := rfl
  rw [ep] at e0 e1
  change y ∈ ((View.whole main_v1).slice (win0_2.rect (pointOf y))).set
  rw [View.set_slice_whole, Rect.mem_set_unit]
  intro a
  match a with
  | ⟨0, _⟩ =>
    change win0_2.index (pointOf y) (0 : Fin 2) * 256 ≤ (y 0).val ∧ (y 0).val < win0_2.index (pointOf y) (0 : Fin 2) * 256 + 256
    omega
  | ⟨1, _⟩ =>
    change win0_2.index (pointOf y) (1 : Fin 2) * 1024 ≤ (y 1).val ∧ (y 1).val < win0_2.index (pointOf y) (1 : Fin 2) * 1024 + 1024
    omega

/-- The array the kernel returns. -/
theorem kernel_value : (dats m 0 c).arrAt 2 cfg0.N = rowsByRows (heads m c) (weights m c) :=
  (dats m 0 c).arrAt_eq_of_cover 2 _ (fun t _ => written m c t) reached

/-- The array the reference returns. -/
theorem reference_value (X W : Sq) :
    Host.dotGeneral Cert.Reference3Ideal.dot_S2048x2048_S2048x2048_S2048x2048_1_0_0_1_n_n none X
      (transpose S2048x2048 [1, 0] W Cert.Reference3Ideal.Gen.facts.transposes_S2048x2048_S2048x2048_1_0) = rowsByRows X W := by
  funext y
  rw [show y = ix2 (y 0) (y 1) from at_coords y]
  pointwise [rowsByRows]

end Cert.Kernel3Ideal.Out

end
-- ==== Proof.QkvSpec.lean ====
/-
  The projections of the tokens to queries, keys and values, with the queries and keys turned by their positions: what
  one entry is, in the terms of the arguments and of the two tables' rows.
-/
module

public import proofs.«01_k».proof.Proof.Heads
public import proofs.«01_k».proof.Pre_positions
public import Idealize.ShloMosaic.Lib.ReduceAll

@[expose] public section

set_option maxRecDepth 16384

noncomputable section

namespace Qkv

open Idealize.ShloMosaic

/-- The tokens, their positions, a square array of weights, and a table of 2048 rows. -/
abbrev Tokens := FVec Ideal ⟨3, ![1, 2048, 2048]⟩ .f32
abbrev Places := IVec ⟨2, ![1, 2048]⟩ 32
abbrev Weights := FVec Ideal ⟨2, ![2048, 2048]⟩ .f32
abbrev Table := FVec Ideal ⟨2, ![2048, 128]⟩ .f32
abbrev Packed := FVec Ideal ⟨2, ![2048, 6144]⟩ .f32

/-- A token against a row of the weights. -/
def proj (X : Tokens) (W : Weights) (s j : Fin 2048) : EReal := ∑ k : Fin 2048, X (ix3 0 s k) * W (ix2 j k)

/-- A column of the joined projections: the queries', the keys' and the values' columns in turn. -/
def col (X : Tokens) (Wq Wk Wv : Weights) (s : Fin 2048) (J : Nat) (hJ : J < 6144) : EReal :=
  if h : J < 2048 then proj X Wq s ⟨J, h⟩
  else if h' : J < 4096 then proj X Wk s ⟨J - 2048, by omega⟩
  else proj X Wv s ⟨J - 4096, by omega⟩

/-- A head with its two halves exchanged and the second one negated. -/
def turn (z : Fin 128 → EReal) (d : Fin 128) : EReal :=
  if h : d.val < 64 then -(z ⟨d.val + 64, by omega⟩) else z ⟨d.val - 64, by omega⟩

/-- A head turned by a row of cosines and a row of sines. -/
def rope (z c s : Fin 128 → EReal) (d : Fin 128) : EReal := z d * c d + turn z d * s d

/-- The table's row for a position. -/
def place (p : BitVec 32) : Fin 2048 := ⟨min p.toInt.toNat (2048 - 1), by omega⟩

/-- The row of a table for each token. -/
def rowOf (T : Table) (P : Places) (s : Fin 2048) (d : Fin 128) : EReal := T (ix2 (place (P (ix2 0 s))) d)

/-- The packed array: the turned queries and keys, then the values. -/
def packed (X : Tokens) (P : Places) (Wq Wk Wv : Weights) (C S : Table) : Packed := fun y =>
  if h : (y 1).val < 4096 then
    rope (fun d => col X Wq Wk Wv (y 0) (128 * ((y 1).val / 128) + d.val) (by have hd := d.isLt; omega))
      (rowOf C P (y 0)) (rowOf S P (y 0)) ⟨(y 1).val % 128, Nat.mod_lt _ (by norm_num)⟩
  else col X Wq Wk Wv (y 0) (y 1).val (y 1).isLt

theorem packed_apply (X : Tokens) (P : Places) (Wq Wk Wv : Weights) (C S : Table) (s : Fin 2048) (J : Fin 6144) :
    packed X P Wq Wk Wv C S (ix2 s J) = if h : J.val < 4096 then
      rope (fun d => col X Wq Wk Wv s (128 * (J.val / 128) + d.val) (by have hd := d.isLt; omega))
        (rowOf C P s) (rowOf S P s) ⟨J.val % 128, Nat.mod_lt _ (by norm_num)⟩
    else col X Wq Wk Wv s J.val J.isLt := rfl

/-- Arrays that agree at every pair of coordinates are equal. -/
theorem ext_coords {a b : Nat} (f g : (⟨2, ![a, b]⟩ : Shape).Idx → EReal) (h : ∀ (s : Fin a) (j : Fin b), f (ix2 s j) = g (ix2 s j)) : f = g := by
  funext y
  have ey : y = ix2 (y 0) (y 1) := by
    funext d
    match d with
    | ⟨0, _⟩ => rfl
    | ⟨1, _⟩ => rfl
  exact (congrArg f ey).trans ((h _ _).trans (congrArg g ey).symm)

/-- Every position is a row of the tables. -/
def Rows (P : Places) : Prop := ∀ s : Fin 2048, 0 ≤ (P (ix2 0 s)).toInt ∧ (P (ix2 0 s)).toInt < 2048

theorem slt_eq (x y : BitVec 32) : IntOp.cmpi .slt x y = BitVec.ofBool (decide (x.toInt < y.toInt)) := by
  change BitVec.ofBool (x.slt y) = _
  rw [BitVec.slt_eq_decide]

theorem sge_eq (x y : BitVec 32) : IntOp.cmpi .sge x y = BitVec.ofBool (decide (y.toInt ≤ x.toInt)) := by
  change BitVec.ofBool (y.sle x) = _
  rw [BitVec.sle]

theorem sle_eq (x y : BitVec 32) : IntOp.cmpi .sle x y = BitVec.ofBool (decide (x.toInt ≤ y.toInt)) := by
  change BitVec.ofBool (x.sle y) = _
  rw [BitVec.sle]

/-- A position that is a row is not counted from the end. -/
theorem wrap_eq (p : BitVec 32) (h : 0 ≤ p.toInt) : Scalar.select (IntOp.cmpi .slt p 0#32) (IntOp.addi p 2048#32) p = p := by
  rw [slt_eq, show (0#32 : BitVec 32).toInt = 0 from rfl, decide_eq_false (by omega)]
  rfl

end Qkv

namespace Cert.Pre_positions.Read

open Idealize.ShloMosaic Cert.Pre_positions Cert.Pre_positions.Facts

/-- What the precondition's operations ask of their shapes. -/
instance shapes : Cert.Pre_positions.Facts where
  bcast_S_S1x2048 := by decide
  reducesTo_S1x2048_S_d0_1 := by decide
  h_S_ := by decide

/-- The bit of a position. -/
def inside (P : IVec S1x2048 32) : IVec S1x2048 1 :=
  andi (cmpi .sge P (broadcastInDim S1x2048 ![] bcast_S_S1x2048 (constantI S_ 32 0#32)))
    (cmpi .slt P (broadcastInDim S1x2048 ![] bcast_S_S1x2048 (constantI S_ 32 2048#32)))

theorem inside_apply (P : IVec S1x2048 32) (y : S1x2048.Idx) :
    inside P y = IntOp.andi (IntOp.cmpi .sge (P y) 0#32) (IntOp.cmpi .slt (P y) 2048#32) := rfl

theorem fn_eq (X : FVec Ideal S1x2048x2048 .f32) (P : IVec S1x2048 32) (Wq Wk Wv : FVec Ideal S2048x2048 .f32) :
    fn (F := Ideal) X P Wq Wk Wv = Host.reduce IntOp.andi (inside P) (constantI S_ 1 1#1) reducesTo_S1x2048_S_d0_1 h_S_ := rfl

theorem both (p q : Bool) (h : IntOp.andi (BitVec.ofBool p) (BitVec.ofBool q) = 1#1) : p = true ∧ q = true := by
  revert h
  cases p <;> cases q <;> decide

theorem rows_of_pre (X : FVec Ideal S1x2048x2048 .f32) (P : IVec S1x2048 32) (Wq Wk Wv : FVec Ideal S2048x2048 .f32)
    (h : fn (F := Ideal) X P Wq Wk Wv = fun _ => 1#1) : Qkv.Rows P := by
  intro s
  have : Subsingleton S_.Idx := ⟨fun a b => funext fun k => k.elim0⟩
  rw [fn_eq] at h
  have e := Host.reduce_andi_all (inside P) _ reducesTo_S1x2048_S_d0_1 h_S_ ix0 (congrFun h ix0) (ix2 0 s)
  rw [inside_apply, Qkv.sge_eq, Qkv.slt_eq] at e
  obtain ⟨e0, e1⟩ := both _ _ e
  exact ⟨of_decide_eq_true e0, of_decide_eq_true e1⟩

end Cert.Pre_positions.Read

end
-- ==== Proof.QkvRef.lean ====
/-
  The packed array that the reference returns, entry by entry.
-/
module

public import proofs.«01_k».proof.Proof.QkvSpec
public import proofs.«01_k».proof.Proof.Gen.Reference2Ideal.Run

@[expose] public section

set_option maxRecDepth 16384

noncomputable section

namespace Cert.Reference2Ideal.Read

open Idealize.ShloMosaic Idealize.ShloMosaic.TcCoe Idealize.SL.Sem Cert.Reference2Ideal Cert.Reference2Ideal.Gen Cert.Reference2Ideal.Value

/-- The angles of the rows. -/
def angles : FVec Ideal S2048x64 .f32 :=
  mulf (broadcastInDim S2048x64 ![0, 1] bcast_S2048x1_S2048x64_0_1 (broadcastInDim S2048x1 ![0] bcast_S2048_S2048x1_0 (sitofp .f32 (iotaInDim S2048 32 0))))
    (broadcastInDim S2048x64 ![0, 1] bcast_S1x64_S2048x64_0_1 (broadcastInDim S1x64 ![1] bcast_S64_S1x64_1
      (Host.divf (broadcastInDim S64 ![] bcast_S_S64 (constant S_ .f32 0x3F800000#32))
        (Host.powf (broadcastInDim S64 ![] bcast_S_S64 (constant S_ .f32 0x461C4000#32))
          (Host.divf (addf (broadcastInDim S64 ![] bcast_S_S64 (constant S_ .f32 0x00000000#32)) (mulf (broadcastInDim S64 ![] bcast_S_S64 (constant S_ .f32 0x40000000#32)) (sitofp .f32 (iotaInDim S64 32 0))))
            (broadcastInDim S64 ![] bcast_S_S64 (constant S_ .f32 0x43000000#32)))))))

def doubled (a : FVec Ideal S2048x64 .f32) : FVec Ideal S2048x128 .f32 :=
  concatenate S2048x128 1 [⟨S2048x64, a⟩, ⟨S2048x64, a⟩] concatenates_S2048x64_S2048x64_S2048x128_d1

def cosines : FVec Ideal S2048x128 .f32 := Host.cos (doubled angles)
def sines : FVec Ideal S2048x128 .f32 := Host.sin (doubled angles)

def prod (X : Qkv.Tokens) (W : Qkv.Weights) : FVec Ideal S1x2048x2048 .f32 :=
  Host.dotGeneral dot_S1x2048x2048_S2048x2048_S1x2048x2048_2_0_01_1_n_n none X (transpose S2048x2048 [1, 0] W transposes_S2048x2048_S2048x2048_1_0)

def byHead (z : FVec Ideal S1x2048x2048 .f32) : FVec Ideal S1x16x2048x128 .f32 :=
  transpose S1x16x2048x128 [0, 2, 1, 3] (shapeCast S1x2048x16x128 z shapeCasts_S1x2048x2048_S1x2048x16x128) transposes_S1x2048x16x128_S1x16x2048x128_0_2_1_3

def wrapped (P : Qkv.Places) : IVec S1x2048x1 32 :=
  broadcastInDim S1x2048x1 ![0, 1] bcast_S1x2048_S1x2048x1_0_1
    (select (cmpi .slt P (broadcastInDim S1x2048 ![] bcast_S_S1x2048 (constantI S_ 32 0#32))) (addi P (broadcastInDim S1x2048 ![] bcast_S_S1x2048 (constantI S_ 32 2048#32))) P)

def looked (T : Qkv.Table) (i : IVec S1x2048x1 32) : FVec Ideal S1x2048x128 .f32 :=
  Host.gather gather_S2048x128_S1x2048x1_S1x2048x128_2_0_n_n_0_2_1128 T i

def spread (t : FVec Ideal S1x2048x128 .f32) : FVec Ideal S1x16x2048x128 .f32 :=
  broadcastInDim S1x16x2048x128 ![0, 1, 2, 3] bcast_S1x1x2048x128_S1x16x2048x128_0_1_2_3 (broadcastInDim S1x1x2048x128 ![0, 2, 3] bcast_S1x2048x128_S1x1x2048x128_0_2_3 t)

def turned (z : FVec Ideal S1x16x2048x128 .f32) : FVec Ideal S1x16x2048x128 .f32 :=
  concatenate S1x16x2048x128 3 [⟨S1x16x2048x64, Host.negf (extractStridedSlice S1x16x2048x64 ![0, 0, 0, 64] z slices_S1x16x2048x128_S1x16x2048x64_0_0_0_64)⟩,
    ⟨S1x16x2048x64, extractStridedSlice S1x16x2048x64 ![0, 0, 0, 0] z slices_S1x16x2048x128_S1x16x2048x64_0_0_0_0⟩] concatenates_S1x16x2048x64_S1x16x2048x64_S1x16x2048x128_d3

def roped (z c s : FVec Ideal S1x16x2048x128 .f32) : FVec Ideal S1x16x2048x128 .f32 := addf (mulf z c) (mulf (turned z) s)

def joined (z : FVec Ideal S1x16x2048x128 .f32) : FVec Ideal S1x2048x2048 .f32 :=
  shapeCast S1x2048x2048 (transpose S1x2048x16x128 [0, 2, 1, 3] z transposes_S1x16x2048x128_S1x2048x16x128_0_2_1_3) shapeCasts_S1x2048x16x128_S1x2048x2048

def side (q k v : FVec Ideal S1x2048x2048 .f32) : FVec Ideal S2048x6144 .f32 :=
  shapeCast S2048x6144 (concatenate S1x2048x6144 2 [⟨S1x2048x2048, q⟩, ⟨S1x2048x2048, k⟩, ⟨S1x2048x2048, v⟩] concatenates_S1x2048x2048_S1x2048x2048_S1x2048x2048_S1x2048x6144_d2)
    shapeCasts_S1x2048x6144_S2048x6144

/-- The reference's result from its arguments. -/
def whole (X : Qkv.Tokens) (P : Qkv.Places) (Wq Wk Wv : Qkv.Weights) : Qkv.Packed :=
  side (joined (roped (byHead (prod X Wq)) (spread (looked cosines (wrapped P))) (spread (looked sines (wrapped P)))))
    (joined (roped (byHead (prod X Wk)) (spread (looked cosines (wrapped P))) (spread (looked sines (wrapped P))))) (prod X Wv)

theorem res_eq (m : (ℓ : Loc nD τ sig) → Buf (Elt Ideal) ℓ) (c : Dev nD) :
    res_out0 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

theorem prod_apply (X : Qkv.Tokens) (W : Qkv.Weights) (s j : Fin 2048) : prod X W (ix3 0 s j) = Qkv.proj X W s j := by
  pointwise [prod]
  rfl

theorem byHead_apply (z : FVec Ideal S1x2048x2048 .f32) (h : Fin 16) (s : Fin 2048) (d : Fin 128) :
    byHead z (ix4 0 h s d) = z (ix3 0 s ⟨128 * h.val + d.val, by omega⟩) := by
  pointwise [byHead]
  exact congrArg (fun j => z (ix3 0 s j)) (Fin.ext (by change h.val * 128 + d.val = 128 * h.val + d.val; omega))

theorem wrapped_apply (P : Qkv.Places) (hP : Qkv.Rows P) (s : Fin 2048) : wrapped P (ix3 0 s 0) = P (ix2 0 s) := by
  have e : wrapped P (ix3 0 s 0) = Scalar.select (IntOp.cmpi .slt (P (ix2 0 s)) 0#32) (IntOp.addi (P (ix2 0 s)) 2048#32) (P (ix2 0 s)) := by
    pointwise [wrapped]
  rw [e, Qkv.wrap_eq _ (hP s).1]

theorem start0 (i : IVec S1x2048x1 32) (s : Fin 2048) (d : Fin 128) :
    GatherDims.start gather_S2048x128_S1x2048x1_S1x2048x128_2_0_n_n_0_2_1128 (ix3 0 s d) i 0 = (Qkv.place (i (ix3 0 s 0))).val := by
  unfold GatherDims.start
  rw [dif_pos (show (0 : Fin 2) ∈ gather_S2048x128_S1x2048x1_S1x2048x128_2_0_n_n_0_2_1128.startIndexMap from List.mem_singleton.mpr rfl)]
  unfold Qkv.place
  refine congrArg (fun z : S1x2048x1.Idx => min (i z).toInt.toNat (2048 - 1)) (funext fun b => Fin.ext ?_)
  match b with
  | ⟨0, _⟩ => rfl
  | ⟨1, _⟩ => rfl
  | ⟨2, _⟩ => rfl

theorem start1 (i : IVec S1x2048x1 32) (s : Fin 2048) (d : Fin 128) :
    GatherDims.start gather_S2048x128_S1x2048x1_S1x2048x128_2_0_n_n_0_2_1128 (ix3 0 s d) i 1 = 0 := by
  unfold GatherDims.start
  exact dif_neg (show (1 : Fin 2) ∉ [(0 : Fin 2)] by decide)

theorem off0 (s : Fin 2048) (d : Fin 128) : GatherDims.offCoord gather_S2048x128_S1x2048x1_S1x2048x128_2_0_n_n_0_2_1128 (ix3 0 s d) 0 = 0 :=
  GatherDims.offCoord_eq_zero _ _ _ fun h => ((GatherDims.mem_sKept _ _).mp h).1 (List.mem_singleton.mpr rfl)

theorem off1 (s : Fin 2048) (d : Fin 128) : GatherDims.offCoord gather_S2048x128_S1x2048x1_S1x2048x128_2_0_n_n_0_2_1128 (ix3 0 s d) 1 = d.val := by
  unfold GatherDims.offCoord
  rw [dif_pos ((GatherDims.mem_sKept _ _).mpr ⟨show (1 : Fin 2) ∉ [(0 : Fin 2)] by decide, List.not_mem_nil⟩)]
  rfl

theorem looked_apply (T : Qkv.Table) (i : IVec S1x2048x1 32) (s : Fin 2048) (d : Fin 128) :
    looked T i (ix3 0 s d) = T (ix2 (Qkv.place (i (ix3 0 s 0))) d) := by
  unfold looked Host.gather
  refine congrArg T (funext fun a => Fin.ext ?_)
  match a with
  | ⟨0, _⟩ =>
    change GatherDims.start gather_S2048x128_S1x2048x1_S1x2048x128_2_0_n_n_0_2_1128 (ix3 0 s d) i 0 + GatherDims.batchCoord gather_S2048x128_S1x2048x1_S1x2048x128_2_0_n_n_0_2_1128 (ix3 0 s d) 0
      + GatherDims.offCoord gather_S2048x128_S1x2048x1_S1x2048x128_2_0_n_n_0_2_1128 (ix3 0 s d) 0 = (Qkv.place (i (ix3 0 s 0))).val
    rw [start0, off0, GatherDims.batchCoord_eq_zero _ _ _ List.not_mem_nil, Nat.add_zero]
  | ⟨1, _⟩ =>
    change GatherDims.start gather_S2048x128_S1x2048x1_S1x2048x128_2_0_n_n_0_2_1128 (ix3 0 s d) i 1 + GatherDims.batchCoord gather_S2048x128_S1x2048x1_S1x2048x128_2_0_n_n_0_2_1128 (ix3 0 s d) 1
      + GatherDims.offCoord gather_S2048x128_S1x2048x1_S1x2048x128_2_0_n_n_0_2_1128 (ix3 0 s d) 1 = d.val
    rw [start1, off1, GatherDims.batchCoord_eq_zero _ _ _ List.not_mem_nil, Nat.zero_add]

theorem spread_apply (t : FVec Ideal S1x2048x128 .f32) (h : Fin 16) (s : Fin 2048) (d : Fin 128) : spread t (ix4 0 h s d) = t (ix3 0 s d) := by
  pointwise [spread]

theorem turned_apply (z : FVec Ideal S1x16x2048x128 .f32) (h : Fin 16) (s : Fin 2048) (d : Fin 128) :
    turned z (ix4 0 h s d) = Qkv.turn (fun d => z (ix4 0 h s d)) d := by
  pointwise [turned]
  unfold Qkv.turn
  split
  · exact congrArg (fun e => -(z (ix4 0 h s e))) (Fin.ext (Nat.add_comm 64 d.val))
  · rfl

theorem joined_apply (z : FVec Ideal S1x16x2048x128 .f32) (s j : Fin 2048) :
    joined z (ix3 0 s j) = z (ix4 0 ⟨j.val / 128, by omega⟩ s ⟨j.val % 128, Nat.mod_lt _ (by norm_num)⟩) := by
  pointwise [joined]

theorem side_apply (q k v : FVec Ideal S1x2048x2048 .f32) (s : Fin 2048) (J : Fin 6144) :
    side q k v (ix2 s J) = if h : J.val < 2048 then q (ix3 0 s ⟨J.val, h⟩) else if h' : J.val < 4096 then k (ix3 0 s ⟨J.val - 2048, by omega⟩) else v (ix3 0 s ⟨J.val - 4096, by omega⟩) := by
  pointwise [side]
  by_cases h : J.val < 2048
  · rw [dif_pos h, dif_pos h]
  rw [dif_neg h, dif_neg h]
  by_cases h' : J.val < 4096
  · rw [dif_pos h', dif_pos (by omega)]
  · rw [dif_neg h', dif_neg (by omega)]
    exact congrArg (fun j => v (ix3 0 s j)) (Fin.ext (by change J.val - 2048 - 2048 = J.val - 4096; omega))

/-- A projection of the tokens, turned. -/
theorem turned_proj (X : Qkv.Tokens) (W : Qkv.Weights) (P : Qkv.Places) (hP : Qkv.Rows P) (C S : Qkv.Table) (s j : Fin 2048) :
    joined (roped (byHead (prod X W)) (spread (looked C (wrapped P))) (spread (looked S (wrapped P)))) (ix3 0 s j)
      = Qkv.rope (fun d => Qkv.proj X W s ⟨128 * (j.val / 128) + d.val, by omega⟩) (Qkv.rowOf C P s) (Qkv.rowOf S P s) ⟨j.val % 128, Nat.mod_lt _ (by norm_num)⟩ := by
  rw [joined_apply]
  change byHead (prod X W) (ix4 0 ⟨j.val / 128, _⟩ s ⟨j.val % 128, _⟩) * spread (looked C (wrapped P)) (ix4 0 ⟨j.val / 128, _⟩ s ⟨j.val % 128, _⟩)
    + turned (byHead (prod X W)) (ix4 0 ⟨j.val / 128, _⟩ s ⟨j.val % 128, _⟩) * spread (looked S (wrapped P)) (ix4 0 ⟨j.val / 128, _⟩ s ⟨j.val % 128, _⟩) = _
  rw [turned_apply, spread_apply, spread_apply, looked_apply, looked_apply, wrapped_apply P hP]
  simp only [byHead_apply, prod_apply]
  rfl

/-- The reference's result is the packed array of its arguments and the tables. -/
theorem whole_eq (X : Qkv.Tokens) (P : Qkv.Places) (hP : Qkv.Rows P) (Wq Wk Wv : Qkv.Weights) :
    whole X P Wq Wk Wv = Qkv.packed X P Wq Wk Wv cosines sines := by
  refine Qkv.ext_coords _ _ fun s J => ?_
  have hJ : J.val < 6144 := J.isLt
  unfold whole
  rw [Qkv.packed_apply, side_apply]
  by_cases h : J.val < 2048
  · rw [dif_pos h, dif_pos (by omega), turned_proj X Wq P hP]
    refine congrArg (fun z => Qkv.rope z (Qkv.rowOf cosines P s) (Qkv.rowOf sines P s) ⟨J.val % 128, _⟩) (funext fun d => ?_)
    unfold Qkv.col
    rw [dif_pos (by have hd := d.isLt; omega)]
  rw [dif_neg h]
  by_cases h' : J.val < 4096
  · rw [dif_pos h', dif_pos h', turned_proj X Wk P hP]
    have em : (⟨(J.val - 2048) % 128, Nat.mod_lt _ (by norm_num)⟩ : Fin 128) = ⟨J.val % 128, Nat.mod_lt _ (by norm_num)⟩ :=
      Fin.ext (by change (J.val - 2048) % 128 = J.val % 128; omega)
    refine (congrArg (Qkv.rope _ _ _) em).trans ?_
    refine congrArg (fun z => Qkv.rope z (Qkv.rowOf cosines P s) (Qkv.rowOf sines P s) ⟨J.val % 128, _⟩) (funext fun d => ?_)
    unfold Qkv.col
    have hd := d.isLt
    rw [dif_neg (by omega), dif_pos (by omega)]
    exact congrArg (Qkv.proj X Wk s) (Fin.ext (by change 128 * ((J.val - 2048) / 128) + d.val = 128 * (J.val / 128) + d.val - 2048; omega))
  · rw [dif_neg h', dif_neg h', prod_apply]
    unfold Qkv.col
    rw [dif_neg h, dif_neg h']

end Cert.Reference2Ideal.Read

end
-- ==== Proof.QkvHost.lean ====
/-
  The arrays that the kernel's launch prepares: the tokens in rows, the three weights turned and joined, and the rows of
  the two tables that the positions ask for.
-/
module

public import proofs.«01_k».proof.Proof.QkvSpec
public import proofs.«01_k».proof.Proof.Gen.Kernel2Ideal.Value
public import Idealize.ShloMosaic.Lib.StableHlo.RunClose

@[expose] public section

set_option maxRecDepth 16384

noncomputable section

namespace Cert.Kernel2Ideal.Prep

open Idealize.ShloMosaic Idealize.ShloMosaic.TcCoe Idealize.SL.Sem Cert.Kernel2Ideal Cert.Kernel2Ideal.Gen Cert.Kernel2Ideal.Value
open Idealize.ShloMosaic.StableHlo

/-- The angles of the rows. -/
def angles : FVec Ideal S2048x64 .f32 :=
  mulf (broadcastInDim S2048x64 ![0, 1] bcast_S2048x1_S2048x64_0_1 (broadcastInDim S2048x1 ![0] bcast_S2048_S2048x1_0 (sitofp .f32 (iotaInDim S2048 32 0))))
    (broadcastInDim S2048x64 ![0, 1] bcast_S1x64_S2048x64_0_1 (broadcastInDim S1x64 ![1] bcast_S64_S1x64_1
      (Host.divf (broadcastInDim S64 ![] bcast_S_S64 (constant S_ .f32 0x3F800000#32))
        (Host.powf (broadcastInDim S64 ![] bcast_S_S64 (constant S_ .f32 0x461C4000#32))
          (Host.divf (addf (broadcastInDim S64 ![] bcast_S_S64 (constant S_ .f32 0x00000000#32)) (mulf (broadcastInDim S64 ![] bcast_S_S64 (constant S_ .f32 0x40000000#32)) (sitofp .f32 (iotaInDim S64 32 0))))
            (broadcastInDim S64 ![] bcast_S_S64 (constant S_ .f32 0x43000000#32)))))))

def doubled (a : FVec Ideal S2048x64 .f32) : FVec Ideal S2048x128 .f32 :=
  concatenate S2048x128 1 [⟨S2048x64, a⟩, ⟨S2048x64, a⟩] concatenates_S2048x64_S2048x64_S2048x128_d1

/-- The tables: the cosine and the sine of every row's angles. -/
def cosines : FVec Ideal S2048x128 .f32 := Host.cos (doubled angles)
def sinesOf (a : FVec Ideal S2048x128 .f32) : FVec Ideal S2048x128 .f32 := Host.sin a

def flat (X : Qkv.Tokens) : FVec Ideal S2048x2048 .f32 := shapeCast S2048x2048 X shapeCasts_S1x2048x2048_S2048x2048

def stacked (Wq Wk Wv : Qkv.Weights) : FVec Ideal S2048x6144 .f32 :=
  concatenate S2048x6144 1 [⟨S2048x2048, transpose S2048x2048 [1, 0] Wq transposes_S2048x2048_S2048x2048_1_0⟩,
    ⟨S2048x2048, transpose S2048x2048 [1, 0] Wk transposes_S2048x2048_S2048x2048_1_0⟩,
    ⟨S2048x2048, transpose S2048x2048 [1, 0] Wv transposes_S2048x2048_S2048x2048_1_0⟩] concatenates_S2048x2048_S2048x2048_S2048x2048_S2048x6144_d1

def listed (P : Qkv.Places) : IVec S2048 32 := shapeCast S2048 P shapeCasts_S1x2048_S2048

def wrapped (p : IVec S2048 32) : IVec S2048x1 32 :=
  broadcastInDim S2048x1 ![0] bcast_S2048_S2048x1_0
    (select (cmpi .slt p (broadcastInDim S2048 ![] bcast_S_S2048 (constantI S_ 32 0#32))) (addi p (broadcastInDim S2048 ![] bcast_S_S2048 (constantI S_ 32 2048#32))) p)

def known (i : IVec S2048x1 32) : IVec S2048x1 1 :=
  andi (cmpi .sge i (broadcastInDim S2048x1 ![] bcast_S_S2048x1 (constantI S_ 32 0#32)))
    (cmpi .sle i (broadcastInDim S2048x1 ![0, 1] bcast_S1x1_S2048x1_0_1 (broadcastInDim S1x1 ![1] bcast_S1_S1x1_1 (constantI S1 32 2047#32))))

def allKnown (b : IVec S2048x1 1) : IVec S2048 1 := Host.reduce IntOp.andi b (constantI S_ 1 1#1) reducesTo_S2048x1_S2048_d1 h_S_

def looked (T : Qkv.Table) (i : IVec S2048x1 32) : FVec Ideal S2048x128 .f32 :=
  Host.gather gather_S2048x128_S2048x1_S2048x128_1_0_n_n_0_1_1128 T i

/-- The rows of a table, or the filler where there is no such row. -/
def taken (T : Qkv.Table) (p : IVec S2048 32) : FVec Ideal S2048x128 .f32 :=
  select (broadcastInDim S2048x128 ![0] bcast_S2048_S2048x128_0 (allKnown (known (wrapped p)))) (looked T (wrapped p))
    (broadcastInDim S2048x128 ![] bcast_S_S2048x128 (constant S_ .f32 0x7FC00000#32))

theorem after_append (a b : List (HloOp τ sig (Elt Ideal))) (V : Valuation τ sig (Elt Ideal)) : after (a ++ b) V = after b (after a V) := by
  induction a generalizing V with
  | nil => rfl
  | cons o a ih => rw [List.cons_append, after_cons, after_cons, ih]

variable (V : Valuation τ sig (Elt Ideal))

theorem after0_v0 : after hostOps0 V (Proc.devRef .tc main_v0) = flat (V (Proc.devRef .tc main_arg0)) := by
  unfold flat
  simp only [hostOps0]
  after_results_entrywise [cast_eq]

theorem after0_v4 : after hostOps0 V (Proc.devRef .tc main_v4)
    = stacked (V (Proc.devRef .tc main_arg2)) (V (Proc.devRef .tc main_arg3)) (V (Proc.devRef .tc main_arg4)) := by
  unfold stacked
  simp only [hostOps0]
  after_results_entrywise [cast_eq]

theorem after0_v22 : after hostOps0 V (Proc.devRef .tc main_v22) = doubled angles := by
  unfold doubled angles
  simp only [hostOps0]
  after_results_entrywise [cast_eq]

theorem after0_v23 : after hostOps0 V (Proc.devRef .tc main_v23) = listed (V (Proc.devRef .tc main_arg1)) := by
  unfold listed
  simp only [hostOps0]
  after_results_entrywise [cast_eq]

theorem after0_v24 : after hostOps0 V (Proc.devRef .tc main_v24) = cosines := by
  unfold cosines doubled angles
  simp only [hostOps0]
  after_results_entrywise [cast_eq]

theorem after1_v25 : after hostOps0_1 V (Proc.devRef .tc main_v25) = taken (V (Proc.devRef .tc main_v24)) (V (Proc.devRef .tc main_v23)) := by
  unfold taken looked allKnown known wrapped
  simp only [hostOps0_1]
  after_results_entrywise [cast_eq]

theorem after2_v26 : after hostOps0_2 V (Proc.devRef .tc main_v26) = sinesOf (V (Proc.devRef .tc main_v22)) := by
  unfold sinesOf
  simp only [hostOps0_2]
  after_results_entrywise [cast_eq]

theorem after3_v27 : after hostOps0_3 V (Proc.devRef .tc main_v27) = taken (V (Proc.devRef .tc main_v26)) (V (Proc.devRef .tc main_v23)) := by
  unfold taken looked allKnown known wrapped
  simp only [hostOps0_3]
  after_results_entrywise [cast_eq]

theorem keep1 : after hostOps0_1 V (Proc.devRef .tc main_v0) = V (Proc.devRef .tc main_v0) ∧ after hostOps0_1 V (Proc.devRef .tc main_v4) = V (Proc.devRef .tc main_v4)
    ∧ after hostOps0_1 V (Proc.devRef .tc main_v22) = V (Proc.devRef .tc main_v22) ∧ after hostOps0_1 V (Proc.devRef .tc main_v23) = V (Proc.devRef .tc main_v23) := by
  simp only [hostOps0_1]
  refine ⟨?_, ?_, ?_, ?_⟩
  all_goals after_results_entrywise [cast_eq]

theorem keep2 : after hostOps0_2 V (Proc.devRef .tc main_v0) = V (Proc.devRef .tc main_v0) ∧ after hostOps0_2 V (Proc.devRef .tc main_v4) = V (Proc.devRef .tc main_v4)
    ∧ after hostOps0_2 V (Proc.devRef .tc main_v25) = V (Proc.devRef .tc main_v25) ∧ after hostOps0_2 V (Proc.devRef .tc main_v23) = V (Proc.devRef .tc main_v23) := by
  simp only [hostOps0_2]
  refine ⟨?_, ?_, ?_, ?_⟩
  all_goals after_results_entrywise [cast_eq]

theorem keep3 : after hostOps0_3 V (Proc.devRef .tc main_v0) = V (Proc.devRef .tc main_v0) ∧ after hostOps0_3 V (Proc.devRef .tc main_v4) = V (Proc.devRef .tc main_v4)
    ∧ after hostOps0_3 V (Proc.devRef .tc main_v25) = V (Proc.devRef .tc main_v25) := by
  simp only [hostOps0_3]
  refine ⟨?_, ?_, ?_⟩
  all_goals after_results_entrywise [cast_eq]

variable (m : (ℓ : Loc nD τ sig) → Buf (Elt Ideal) ℓ) (c : Dev nD)

abbrev tokens : Qkv.Tokens := m ((c : Thread nD τ).loc main_arg0)
abbrev places : Qkv.Places := m ((c : Thread nD τ).loc main_arg1)
abbrev wq : Qkv.Weights := m ((c : Thread nD τ).loc main_arg2)
abbrev wk : Qkv.Weights := m ((c : Thread nD τ).loc main_arg3)
abbrev wv : Qkv.Weights := m ((c : Thread nD τ).loc main_arg4)

theorem lines_eq (V : Valuation τ sig (Elt Ideal)) : after (List.flatten [hostOps0, hostOps0_1, hostOps0_2, hostOps0_3]) V
    = after hostOps0_3 (after hostOps0_2 (after hostOps0_1 (after hostOps0 V))) := by
  rw [List.flatten_cons, List.flatten_cons, List.flatten_cons, List.flatten_cons, List.flatten_nil, List.append_nil, after_append, after_append, after_append]

theorem V_v0 : Gen.V m c main_v0 = flat (tokens m c) := by
  unfold Gen.V
  rw [lines_eq]
  exact (keep3 _).1.trans ((keep2 _).1.trans ((keep1 _).1.trans (after0_v0 _)))

theorem V_v4 : Gen.V m c main_v4 = stacked (wq m c) (wk m c) (wv m c) := by
  unfold Gen.V
  rw [lines_eq]
  exact (keep3 _).2.1.trans ((keep2 _).2.1.trans ((keep1 _).2.1.trans (after0_v4 _)))

theorem V_v25 : Gen.V m c main_v25 = taken cosines (listed (places m c)) := by
  unfold Gen.V
  rw [lines_eq]
  exact (keep3 _).2.2.trans ((keep2 _).2.2.1.trans ((after1_v25 _).trans (congrArg₂ taken (after0_v24 _) (after0_v23 _))))

theorem V_v27 : Gen.V m c main_v27 = taken (sinesOf (doubled angles)) (listed (places m c)) := by
  unfold Gen.V
  rw [lines_eq]
  refine (after3_v27 _).trans (congrArg₂ taken ?_ ?_)
  · exact (after2_v26 _).trans (congrArg sinesOf ((keep1 _).2.2.1.trans (after0_v22 _)))
  · exact (keep2 _).2.2.2.trans ((keep1 _).2.2.2.trans (after0_v23 _))

theorem flat_apply (X : Qkv.Tokens) (s k : Fin 2048) : flat X (ix2 s k) = X (ix3 0 s k) := by
  pointwise [flat]

theorem stacked_apply (Wq Wk Wv : Qkv.Weights) (k : Fin 2048) (J : Fin 6144) :
    stacked Wq Wk Wv (ix2 k J) = if h : J.val < 2048 then Wq (ix2 ⟨J.val, h⟩ k) else if h' : J.val < 4096 then Wk (ix2 ⟨J.val - 2048, by omega⟩ k)
      else Wv (ix2 ⟨J.val - 4096, by omega⟩ k) := by
  pointwise [stacked]
  by_cases h : J.val < 2048
  · rw [dif_pos h, dif_pos h]
  rw [dif_neg h, dif_neg h]
  by_cases h' : J.val < 4096
  · rw [dif_pos h', dif_pos (by omega)]
  · rw [dif_neg h', dif_neg (by omega)]
    exact congrArg (fun j => Wv (ix2 j k)) (Fin.ext (by change J.val - 2048 - 2048 = J.val - 4096; omega))

/-- A token against a column of the joined weights. -/
theorem stacked_sum (X : Qkv.Tokens) (Wq Wk Wv : Qkv.Weights) (s : Fin 2048) (J : Fin 6144) :
    ∑ k : Fin 2048, flat X (ix2 s k) * stacked Wq Wk Wv (ix2 k J) = Qkv.col X Wq Wk Wv s J.val J.isLt := by
  unfold Qkv.col
  by_cases h : J.val < 2048
  · rw [dif_pos h]
    exact Finset.sum_congr rfl fun k _ => by rw [flat_apply, stacked_apply, dif_pos h]
  rw [dif_neg h]
  by_cases h' : J.val < 4096
  · rw [dif_pos h']
    exact Finset.sum_congr rfl fun k _ => by rw [flat_apply, stacked_apply, dif_neg h, dif_pos h']
  · rw [dif_neg h']
    exact Finset.sum_congr rfl fun k _ => by rw [flat_apply, stacked_apply, dif_neg h, dif_neg h']

theorem wrapped_apply (P : Qkv.Places) (hP : Qkv.Rows P) (s : Fin 2048) : wrapped (listed P) (ix2 s 0) = P (ix2 0 s) := by
  have e : wrapped (listed P) (ix2 s 0) = Scalar.select (IntOp.cmpi .slt (P (ix2 0 s)) 0#32) (IntOp.addi (P (ix2 0 s)) 2048#32) (P (ix2 0 s)) := by
    pointwise [wrapped, listed]
  rw [e, Qkv.wrap_eq _ (hP s).1]

theorem known_apply (i : IVec S2048x1 32) (y : S2048x1.Idx) : known i y = IntOp.andi (IntOp.cmpi .sge (i y) 0#32) (IntOp.cmpi .sle (i y) 2047#32) := rfl

theorem known_all (P : Qkv.Places) (hP : Qkv.Rows P) (y : S2048x1.Idx) : known (wrapped (listed P)) y = 1#1 := by
  have ey : y = ix2 (y 0) 0 := by
    funext d
    match d with
    | ⟨0, _⟩ => rfl
    | ⟨1, _⟩ => exact Fin.ext (by have h : (y 1).val < 1 := (y 1).isLt; change (y 1).val = 0; omega)
  have hy := hP (y 0)
  have e : wrapped (listed P) y = P (ix2 0 (y 0)) := (congrArg _ ey).trans (wrapped_apply P hP (y 0))
  rw [known_apply, e, Qkv.sge_eq, Qkv.sle_eq, show (0#32 : BitVec 32).toInt = 0 from rfl, show (2047#32 : BitVec 32).toInt = 2047 from rfl,
    decide_eq_true hy.1, decide_eq_true (by omega)]
  rfl

theorem allKnown_apply (P : Qkv.Places) (hP : Qkv.Rows P) (s : Fin 2048) : allKnown (known (wrapped (listed P))) (ix1 s) = 1#1 :=
  Host.reduce_andi_one _ _ reducesTo_S2048x1_S2048_d1 h_S_ (ix1 s) rfl (known_all P hP)

theorem start0 (i : IVec S2048x1 32) (s : Fin 2048) (d : Fin 128) :
    GatherDims.start gather_S2048x128_S2048x1_S2048x128_1_0_n_n_0_1_1128 (ix2 s d) i 0 = (Qkv.place (i (ix2 s 0))).val := by
  unfold GatherDims.start
  rw [dif_pos (show (0 : Fin 2) ∈ gather_S2048x128_S2048x1_S2048x128_1_0_n_n_0_1_1128.startIndexMap from List.mem_singleton.mpr rfl)]
  unfold Qkv.place
  refine congrArg (fun z : S2048x1.Idx => min (i z).toInt.toNat (2048 - 1)) (funext fun b => Fin.ext ?_)
  match b with
  | ⟨0, _⟩ => rfl
  | ⟨1, _⟩ => rfl

theorem start1 (i : IVec S2048x1 32) (s : Fin 2048) (d : Fin 128) :
    GatherDims.start gather_S2048x128_S2048x1_S2048x128_1_0_n_n_0_1_1128 (ix2 s d) i 1 = 0 := by
  unfold GatherDims.start
  exact dif_neg (show (1 : Fin 2) ∉ [(0 : Fin 2)] by decide)

theorem off0 (s : Fin 2048) (d : Fin 128) : GatherDims.offCoord gather_S2048x128_S2048x1_S2048x128_1_0_n_n_0_1_1128 (ix2 s d) 0 = 0 :=
  GatherDims.offCoord_eq_zero _ _ _ fun h => ((GatherDims.mem_sKept _ _).mp h).1 (List.mem_singleton.mpr rfl)

theorem off1 (s : Fin 2048) (d : Fin 128) : GatherDims.offCoord gather_S2048x128_S2048x1_S2048x128_1_0_n_n_0_1_1128 (ix2 s d) 1 = d.val := by
  unfold GatherDims.offCoord
  rw [dif_pos ((GatherDims.mem_sKept _ _).mpr ⟨show (1 : Fin 2) ∉ [(0 : Fin 2)] by decide, List.not_mem_nil⟩)]
  rfl

theorem looked_apply (T : Qkv.Table) (i : IVec S2048x1 32) (s : Fin 2048) (d : Fin 128) :
    looked T i (ix2 s d) = T (ix2 (Qkv.place (i (ix2 s 0))) d) := by
  unfold looked Host.gather
  refine congrArg T (funext fun a => Fin.ext ?_)
  match a with
  | ⟨0, _⟩ =>
    change GatherDims.start gather_S2048x128_S2048x1_S2048x128_1_0_n_n_0_1_1128 (ix2 s d) i 0 + GatherDims.batchCoord gather_S2048x128_S2048x1_S2048x128_1_0_n_n_0_1_1128 (ix2 s d) 0
      + GatherDims.offCoord gather_S2048x128_S2048x1_S2048x128_1_0_n_n_0_1_1128 (ix2 s d) 0 = (Qkv.place (i (ix2 s 0))).val
    rw [start0, off0, GatherDims.batchCoord_eq_zero _ _ _ List.not_mem_nil, Nat.add_zero]
  | ⟨1, _⟩ =>
    change GatherDims.start gather_S2048x128_S2048x1_S2048x128_1_0_n_n_0_1_1128 (ix2 s d) i 1 + GatherDims.batchCoord gather_S2048x128_S2048x1_S2048x128_1_0_n_n_0_1_1128 (ix2 s d) 1
      + GatherDims.offCoord gather_S2048x128_S2048x1_S2048x128_1_0_n_n_0_1_1128 (ix2 s d) 1 = d.val
    rw [start1, off1, GatherDims.batchCoord_eq_zero _ _ _ List.not_mem_nil, Nat.zero_add]

/-- Every token finds its row of a table. -/
theorem taken_apply (T : Qkv.Table) (P : Qkv.Places) (hP : Qkv.Rows P) (s : Fin 2048) (d : Fin 128) :
    taken T (listed P) (ix2 s d) = Qkv.rowOf T P s d := by
  have e : taken T (listed P) (ix2 s d) = Scalar.select (allKnown (known (wrapped (listed P))) (ix1 s)) (looked T (wrapped (listed P)) (ix2 s d)) (Ideal.ofBits .f32 0x7FC00000#32) := by
    pointwise [taken]
  rw [e, allKnown_apply P hP, looked_apply, wrapped_apply P hP]
  rfl

end Cert.Kernel2Ideal.Prep

end
-- ==== Proof.QkvCall.lean ====
/-
  The packed array that the kernel returns: each block holds its columns of the projections, turned in the first four
  column blocks.
-/
module

public import proofs.«01_k».proof.Proof.QkvHost
public import Idealize.ShloMosaic.Lib.Pipeline.ValueKit.Basic

@[expose] public section

set_option maxRecDepth 16384

noncomputable section

namespace Cert.Kernel2Ideal.Prep

open Idealize.ShloMosaic Idealize.ShloMosaic.TcCoe Idealize.SL.Sem Cert.Kernel2Ideal Cert.Kernel2Ideal.Gen Cert.Kernel2Ideal.Value

/-- A block's products, by head. -/
def prods (x0 : FVec Ideal S256x2048 .f32) (x1 : FVec Ideal S2048x1024 .f32) : FVec Ideal S256x8x128 .f32 :=
  shapeCast S256x8x128 (matmul dot_S256x2048_S2048x1024_S256x1024_1_0_0_1_n_n none (shapeCast S256x2048 x0 shapeCasts_S256x2048_S256x2048)
    (shapeCast S2048x1024 x1 shapeCasts_S2048x1024_S2048x1024) (constant S256x1024 .f32 0x00000000#32)) shapeCasts_S256x1024_S256x8x128

def exchanged (z : FVec Ideal S256x8x128 .f32) : FVec Ideal S256x8x128 .f32 :=
  concatenate S256x8x128 2 [⟨S256x8x64, subf (broadcast S256x8x64 (Scalar.ofBits .f32 0x00000000#32)) (extractStridedSlice S256x8x64 ![0, 0, 64] z slices_S256x8x128_o0_0_64_S256x8x64)⟩,
    ⟨S256x8x64, extractStridedSlice S256x8x64 ![0, 0, 0] z slices_S256x8x128_o0_0_0_S256x8x64⟩] concatenates_S256x8x64_S256x8x64_S256x8x128_d2

def rows (x : FVec Ideal S256x128 .f32) : FVec Ideal S256x8x128 .f32 :=
  broadcastTo S256x8x128 (shapeCast S256x1x128 (shapeCast S256x128 x shapeCasts_S256x128_S256x128) shapeCasts_S256x128_S256x1x128) broadcasts_S256x1x128_S256x8x128

def turnedBlock (z c s : FVec Ideal S256x8x128 .f32) : FVec Ideal S256x8x128 .f32 := addf (mulf z c) (mulf (exchanged z) s)

def flatBlock (z : FVec Ideal S256x8x128 .f32) : FVec Ideal S256x1024 .f32 := shapeCast S256x1024 z shapeCasts_S256x8x128_S256x1024

theorem pay_eq (i : grid0.Coords) (x0 : Vec Ideal S256x2048 .f32) (x1 : Vec Ideal S2048x1024 .f32) (x2 x3 : Vec Ideal S256x128 .f32) :
    k0_pay1 i x0 x1 x2 x3 = flatBlock (Scalar.select (Scalar.cmpi .slt (BitVec.ofNat 32 (i 0).val) 4#32) (turnedBlock (prods x0 x1) (rows x2) (rows x3)) (prods x0 x1)) := rfl

theorem prods_apply (x0 : Vec Ideal S256x2048 .f32) (x1 : Vec Ideal S2048x1024 .f32) (p : Fin 256) (g : Fin 8) (d : Fin 128) :
    prods x0 x1 (ix3 p g d) = ∑ k : Fin 2048, x0 (ix2 p k) * x1 (ix2 k ⟨128 * g.val + d.val, by omega⟩) := by
  pointwise [prods]
  exact Finset.sum_congr rfl fun k _ => congrArg (fun j => x0 (ix2 p k) * x1 (ix2 k j)) (Fin.ext (by change g.val * 128 + d.val = 128 * g.val + d.val; omega))

theorem exchanged_apply (z : FVec Ideal S256x8x128 .f32) (p : Fin 256) (g : Fin 8) (d : Fin 128) :
    exchanged z (ix3 p g d) = Qkv.turn (fun d => z (ix3 p g d)) d := by
  pointwise [exchanged]
  unfold Qkv.turn
  split
  · rw [sub_eq_add_neg, zero_add]
    exact congrArg (fun e => -(z (ix3 p g e))) (Fin.ext (Nat.add_comm 64 d.val))
  · rfl

theorem rows_apply (x : Vec Ideal S256x128 .f32) (p : Fin 256) (g : Fin 8) (d : Fin 128) : rows x (ix3 p g d) = x (ix2 p d) := by
  pointwise [rows]

theorem flatBlock_apply (z : FVec Ideal S256x8x128 .f32) (p : Fin 256) (q : Fin 1024) :
    flatBlock z (ix2 p q) = z (ix3 p ⟨q.val / 128, by omega⟩ ⟨q.val % 128, Nat.mod_lt _ (by norm_num)⟩) := by
  pointwise [flatBlock]

theorem first_four : ∀ n : Fin 6, Scalar.cmpi .slt (BitVec.ofNat 32 n.val) 4#32 = BitVec.ofBool (decide (n.val < 4)) := by decide

/-- What a block holds: its products, turned by its rows of the tables in the first four column blocks. -/
theorem out_apply (i : grid0.Coords) (x0 : Vec Ideal S256x2048 .f32) (x1 : Vec Ideal S2048x1024 .f32) (x2 x3 : Vec Ideal S256x128 .f32) (p : Fin 256) (q : Fin 1024) :
    out0_4 i x0 x1 x2 x3 (ix2 p q) = if (i 0).val < 4 then
        Qkv.rope (fun d => ∑ k : Fin 2048, x0 (ix2 p k) * x1 (ix2 k ⟨128 * (q.val / 128) + d.val, by omega⟩)) (fun d => x2 (ix2 p d)) (fun d => x3 (ix2 p d))
          ⟨q.val % 128, Nat.mod_lt _ (by norm_num)⟩
      else ∑ k : Fin 2048, x0 (ix2 p k) * x1 (ix2 k q) := by
  have e : out0_4 i x0 x1 x2 x3 = k0_pay1 i x0 x1 x2 x3 := by
    unfold out0_4
    rw [View.canon_cons_unit_lit _ _ _ (by decide), View.ld_unit_lit _ x0 (by decide), View.ld_unit_lit _ x1 (by decide), View.ld_unit_lit _ x2 (by decide),
      View.ld_unit_lit _ x3 (by decide)]
  rw [e, pay_eq, flatBlock_apply]
  rw [show Scalar.cmpi .slt (BitVec.ofNat 32 (i 0).val) 4#32 = BitVec.ofBool (decide ((i 0).val < 4)) from first_four (i 0)]
  by_cases h : (i 0).val < 4
  · rw [if_pos h, decide_eq_true h]
    change prods x0 x1 (ix3 p ⟨q.val / 128, _⟩ ⟨q.val % 128, _⟩) * rows x2 (ix3 p ⟨q.val / 128, _⟩ ⟨q.val % 128, _⟩)
      + exchanged (prods x0 x1) (ix3 p ⟨q.val / 128, _⟩ ⟨q.val % 128, _⟩) * rows x3 (ix3 p ⟨q.val / 128, _⟩ ⟨q.val % 128, _⟩) = _
    rw [exchanged_apply, rows_apply, rows_apply]
    simp only [prods_apply]
    rfl
  · rw [if_neg h, decide_eq_false h]
    change prods x0 x1 (ix3 p ⟨q.val / 128, _⟩ ⟨q.val % 128, _⟩) = _
    rw [prods_apply]
    exact Finset.sum_congr rfl fun k _ => congrArg (fun j => x0 (ix2 p k) * x1 (ix2 k j)) (Fin.ext (by change 128 * (q.val / 128) + q.val % 128 = q.val; omega))

variable (m : (ℓ : Loc nD τ sig) → Buf (Elt Ideal) ℓ) (c : Dev nD)

theorem coord0 : ∀ t : Fin grid0.N, (grid0.coords t 0).val = t.val / 8 := by decide +kernel
theorem at0 : ∀ t : Fin grid0.N, win0_0.index t (0 : Fin 2) = t.val % 8 ∧ win0_0.index t (1 : Fin 2) = 0 := by decide +kernel
theorem at1 : ∀ t : Fin grid0.N, win0_1.index t (0 : Fin 2) = 0 ∧ win0_1.index t (1 : Fin 2) = t.val / 8 := by decide +kernel
theorem at2 : ∀ t : Fin grid0.N, win0_2.index t (0 : Fin 2) = t.val % 8 ∧ win0_2.index t (1 : Fin 2) = 0 := by decide +kernel
theorem at3 : ∀ t : Fin grid0.N, win0_3.index t (0 : Fin 2) = t.val % 8 ∧ win0_3.index t (1 : Fin 2) = 0 := by decide +kernel
theorem at4 : ∀ t : Fin grid0.N, win0_4.index t (0 : Fin 2) = t.val % 8 ∧ win0_4.index t (1 : Fin 2) = t.val / 8 := by decide +kernel

/-- The row and the column of the whole array that a place in point `t`'s block has. -/
def rowAt (t : Fin cfg0.N) (p : Fin 256) : Fin 2048 := ⟨256 * (t.val % 8) + p.val, by omega⟩
def colAt (t : Fin cfg0.N) (q : Fin 1024) : Fin 6144 :=
  ⟨1024 * (t.val / 8) + q.val, by have h := lt_of_lt_of_eq t.isLt (show cfg0.N = 48 from N_0); omega⟩

theorem iblk0 (t : Fin cfg0.N) (p : Fin 256) (k : Fin 2048) : iblk m c 0 t (ix2 p k) = flat (tokens m c) (ix2 (rowAt t p) k) := by
  obtain ⟨e0, e1⟩ := at0 t
  change Gen.V m c main_v0 (((cfg0.win 0).blk t).view.emb (ix2 p k)) = _
  rw [V_v0]
  refine congrArg (flat (tokens m c)) (funext fun a => Fin.ext ?_)
  match a with
  | ⟨0, _⟩ =>
    change win0_0.index t (0 : Fin 2) * 256 + 1 * p.val = 256 * (t.val % 8) + p.val
    rw [e0]; omega
  | ⟨1, _⟩ =>
    change win0_0.index t (1 : Fin 2) * 2048 + 1 * k.val = k.val
    rw [e1]; omega

theorem iblk1 (t : Fin cfg0.N) (k : Fin 2048) (q : Fin 1024) : iblk m c 1 t (ix2 k q) = stacked (wq m c) (wk m c) (wv m c) (ix2 k (colAt t q)) := by
  obtain ⟨e0, e1⟩ := at1 t
  change Gen.V m c main_v4 (((cfg0.win 1).blk t).view.emb (ix2 k q)) = _
  rw [V_v4]
  refine congrArg (stacked (wq m c) (wk m c) (wv m c)) (funext fun a => Fin.ext ?_)
  match a with
  | ⟨0, _⟩ =>
    change win0_1.index t (0 : Fin 2) * 2048 + 1 * k.val = k.val
    rw [e0]; omega
  | ⟨1, _⟩ =>
    change win0_1.index t (1 : Fin 2) * 1024 + 1 * q.val = 1024 * (t.val / 8) + q.val
    rw [e1]; omega

variable (hP : Qkv.Rows (places m c))

include hP in
theorem iblk2 (t : Fin cfg0.N) (p : Fin 256) (d : Fin 128) : iblk m c 2 t (ix2 p d) = Qkv.rowOf cosines (places m c) (rowAt t p) d := by
  obtain ⟨e0, e1⟩ := at2 t
  change Gen.V m c main_v25 (((cfg0.win 2).blk t).view.emb (ix2 p d)) = _
  rw [V_v25, ← taken_apply cosines (places m c) hP (rowAt t p) d]
  refine congrArg (taken cosines (listed (places m c))) (funext fun a => Fin.ext ?_)
  match a with
  | ⟨0, _⟩ =>
    change win0_2.index t (0 : Fin 2) * 256 + 1 * p.val = 256 * (t.val % 8) + p.val
    rw [e0]; omega
  | ⟨1, _⟩ =>
    change win0_2.index t (1 : Fin 2) * 128 + 1 * d.val = d.val
    rw [e1]; omega

include hP in
theorem iblk3 (t : Fin cfg0.N) (p : Fin 256) (d : Fin 128) : iblk m c 3 t (ix2 p d) = Qkv.rowOf (sinesOf (doubled angles)) (places m c) (rowAt t p) d := by
  obtain ⟨e0, e1⟩ := at3 t
  change Gen.V m c main_v27 (((cfg0.win 3).blk t).view.emb (ix2 p d)) = _
  rw [V_v27, ← taken_apply (sinesOf (doubled angles)) (places m c) hP (rowAt t p) d]
  refine congrArg (taken (sinesOf (doubled angles)) (listed (places m c))) (funext fun a => Fin.ext ?_)
  match a with
  | ⟨0, _⟩ =>
    change win0_3.index t (0 : Fin 2) * 256 + 1 * p.val = 256 * (t.val % 8) + p.val
    rw [e0]; omega
  | ⟨1, _⟩ =>
    change win0_3.index t (1 : Fin 2) * 128 + 1 * d.val = d.val
    rw [e1]; omega

theorem emb4 (t : Fin cfg0.N) (p : Fin 256) (q : Fin 1024) : ((cfg0.win 4).blk t).view.emb (ix2 p q) = ix2 (rowAt t p) (colAt t q) := by
  obtain ⟨e0, e1⟩ := at4 t
  funext a
  refine Fin.ext ?_
  match a with
  | ⟨0, _⟩ =>
    change win0_4.index t (0 : Fin 2) * 256 + 1 * p.val = 256 * (t.val % 8) + p.val
    rw [e0]; omega
  | ⟨1, _⟩ =>
    change win0_4.index t (1 : Fin 2) * 1024 + 1 * q.val = 1024 * (t.val / 8) + q.val
    rw [e1]; omega

/-- The packed array of the arguments. -/
abbrev result : Qkv.Packed := Qkv.packed (tokens m c) (places m c) (wq m c) (wk m c) (wv m c) cosines (sinesOf (doubled angles))

/-- The blocks read at a point. -/
def b0 (t : Fin cfg0.N) : Vec Ideal S256x2048 .f32 := iblk m c 0 t
def b1 (t : Fin cfg0.N) : Vec Ideal S2048x1024 .f32 := iblk m c 1 t
def b2 (t : Fin cfg0.N) : Vec Ideal S256x128 .f32 := iblk m c 2 t
def b3 (t : Fin cfg0.N) : Vec Ideal S256x128 .f32 := iblk m c 3 t

/-- A block's product is a column of the joined projections. -/
theorem block_sum (t : Fin cfg0.N) (p : Fin 256) (q : Fin 1024) (J : Nat) (hJ : J < 6144) (e : J = 1024 * (t.val / 8) + q.val) :
    ∑ k : Fin 2048, b0 m c t (ix2 p k) * b1 m c t (ix2 k q) = Qkv.col (tokens m c) (wq m c) (wk m c) (wv m c) (rowAt t p) J hJ := by
  subst e
  refine Eq.trans ?_ (stacked_sum (tokens m c) (wq m c) (wk m c) (wv m c) (rowAt t p) (colAt t q))
  exact Finset.sum_congr rfl fun k _ => congrArg₂ (fun a b : EReal => a * b) (iblk0 m c t p k) (iblk1 m c t k q)

theorem rope_congr {z z' c c' s s' : Fin 128 → EReal} {d d' : Fin 128} (ez : z = z') (ec : c = c') (es : s = s') (ed : d = d') :
    Qkv.rope z c s d = Qkv.rope z' c' s' d' := by rw [ez, ec, es, ed]

include hP in
theorem block_value (t : Fin cfg0.N) (p : Fin 256) (q : Fin 1024) :
    out0_4 (grid0.coords t) (b0 m c t) (b1 m c t) (b2 m c t) (b3 m c t) (ix2 p q) = result m c (ix2 (rowAt t p) (colAt t q)) := by
  rw [out_apply (grid0.coords t) (b0 m c t) (b1 m c t) (b2 m c t) (b3 m c t) p q]
  unfold result
  rw [Qkv.packed_apply, coord0 t]
  have hJ : (colAt t q).val = 1024 * (t.val / 8) + q.val := rfl
  have hq := q.isLt
  by_cases h : t.val / 8 < 4
  · rw [if_pos h, dif_pos (by omega)]
    refine rope_congr (funext fun d => ?_) (funext fun d => iblk2 m c hP t p d) (funext fun d => iblk3 m c hP t p d)
      (Fin.ext (by change q.val % 128 = (colAt t q).val % 128; rw [hJ]; omega))
    have hd := d.isLt
    exact block_sum m c t p ⟨128 * (q.val / 128) + d.val, by omega⟩ _ _
      (by rw [hJ]; change _ = 1024 * (t.val / 8) + (128 * (q.val / 128) + d.val); omega)
  · rw [if_neg h, dif_neg (by omega)]
    exact block_sum m c t p q _ _ hJ

include hP in
/-- Every block written back is its block of the packed array. -/
theorem written (t : Fin cfg0.N) : (dats m 0 c).flushed 4 t = ((cfg0.win 4).blk t).view.read (Elt Ideal) (result m c) := by
  rw [flushed4]
  refine Qkv.ext_coords (a := 256) (b := 1024) _ _ fun p q => ?_
  change out0_4 (grid0.coords t) (b0 m c t) (b1 m c t) (b2 m c t) (b3 m c t) (ix2 p q) = result m c (((cfg0.win 4).blk t).view.emb (ix2 p q))
  exact (block_value m c hP t p q).trans (congrArg (result m c) (emb4 t p q)).symm

/-- The point whose block holds an element. -/
def pointOf (y : S2048x6144.Idx) : Fin cfg0.N := ⟨8 * ((y 1).val / 1024) + (y 0).val / 256, by
  have h0 : (y 0).val < 2048 := (y 0).isLt
  have h1 : (y 1).val < 6144 := (y 1).isLt
  exact lt_of_lt_of_eq (by omega) (show 48 = cfg0.N from N_0.symm)⟩

theorem reached (y : S2048x6144.Idx) : ∃ t : Fin cfg0.N, (cfg0.win 4).flush t = true ∧ y ∈ ((cfg0.win 4).blk t).view.set := by
  have h0 : (y 0).val < 2048 := (y 0).isLt
  have h1 : (y 1).val < 6144 := (y 1).isLt
  refine ⟨pointOf y, (by decide +kernel : ∀ t : Fin grid0.N, win0_4.flush t = true) _, ?_⟩
  obtain ⟨e0, e1⟩ := at4 (pointOf y)
  have ep : (pointOf y).val = 8 * ((y 1).val / 1024) + (y 0).val / 256 := rfl
  rw [ep] at e0 e1
  change y ∈ ((View.whole main_v28).slice (win0_4.rect (pointOf y))).set
  rw [View.set_slice_whole, Rect.mem_set_unit]
  intro a
  match a with
  | ⟨0, _⟩ =>
    change win0_4.index (pointOf y) (0 : Fin 2) * 256 ≤ (y 0).val ∧ (y 0).val < win0_4.index (pointOf y) (0 : Fin 2) * 256 + 256
    omega
  | ⟨1, _⟩ =>
    change win0_4.index (pointOf y) (1 : Fin 2) * 1024 ≤ (y 1).val ∧ (y 1).val < win0_4.index (pointOf y) (1 : Fin 2) * 1024 + 1024
    omega

include hP in
/-- The array the kernel returns. -/
theorem kernel_value : (dats m 0 c).arrAt 4 cfg0.N = result m c :=
  (dats m 0 c).arrAt_eq_of_cover 4 _ (fun t _ => written m c hP t) reached

end Cert.Kernel2Ideal.Prep

end
-- ==== Proof.Calls.lean ====
/-
  The projection call and the output call against their references.
-/
module

public import proofs.«01_k».proof.Defs
public import proofs.«01_k».proof.Proof.OutCall
public import proofs.«01_k».proof.Proof.QkvRef
public import proofs.«01_k».proof.Proof.QkvCall
public import Idealize.ShloMosaic.Lib.Quiescent

@[expose] public section

set_option maxRecDepth 16384

noncomputable section

open Idealize.ShloMosaic Idealize.ShloMosaic.TcCoe Idealize.SL.Sem

namespace Cert.Reference2Ideal.Read

open Cert.Reference2Ideal

/-- The reference leaves its arguments and its semaphores as they were. -/
theorem unchanged (m : (ℓ : Loc nD τ sig) → Buf (Elt Ideal) ℓ) (ρ : Dev nD → PrngReg) :
    θ_run (defs (F := Ideal)) (onTc (τ := τ) (main (F := Ideal))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) :=
  (θ_run defs _ _).mono (fun r h => ⟨fun c => (h c).2, sem_eq_zero_of_no_sems (by decide) r.2⟩) (Value.run m ρ)

end Cert.Reference2Ideal.Read

namespace Cert.Reference3Ideal.Read

open Cert.Reference3Ideal

/-- The reference leaves its arguments and its semaphores as they were. -/
theorem unchanged (m : (ℓ : Loc nD τ sig) → Buf (Elt Ideal) ℓ) (ρ : Dev nD → PrngReg) :
    θ_run (defs (F := Ideal)) (onTc (τ := τ) (main (F := Ideal))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run defs _ _).mono (fun r h => ⟨fun c => (h c).2, sem_eq_zero_of_no_sems (by decide) r.2⟩) (Value.run m ρ)

end Cert.Reference3Ideal.Read

namespace Cert.Proof

/-- The two programs compute the same tables. -/
theorem cosines_eq : Cert.Reference2Ideal.Read.cosines = Cert.Kernel2Ideal.Prep.cosines := rfl
theorem sines_eq : Cert.Reference2Ideal.Read.sines = Cert.Kernel2Ideal.Prep.sinesOf (Cert.Kernel2Ideal.Prep.doubled Cert.Kernel2Ideal.Prep.angles) := rfl

theorem projections : algebraic_Kernel2Ideal_Reference2Ideal_pre_positions (hPre_positions := Cert.Pre_positions.Read.shapes) := by
  intro m g m' g' hpre hargs
  have hP (c : Dev Cert.Kernel2Ideal.nD) : Qkv.Rows (Cert.Kernel2Ideal.Prep.places m c) := Cert.Pre_positions.Read.rows_of_pre _ _ _ _ _ (hpre c)
  refine ⟨fun c => Cert.Kernel2Ideal.Prep.result m c,
    (θ_run _ _ _).mono (fun r h c => ⟨(h c).1.trans (Cert.Kernel2Ideal.Prep.kernel_value m c (hP c)), (h c).2⟩) (Cert.Kernel2Ideal.Value.run_blocks m g),
    (θ_run _ _ _).mono (fun r h c => ⟨(h c).1.trans ?_, (h c).2⟩) (Cert.Reference2Ideal.Value.run m' g')⟩
  obtain ⟨e0, e1, e2, e3, e4⟩ := hargs c
  refine (Cert.Reference2Ideal.Read.res_eq m' c).trans ?_
  rw [e0, e1, e2, e3, e4]
  refine (Cert.Reference2Ideal.Read.whole_eq _ _ (hP c) _ _ _).trans ?_
  rw [cosines_eq, sines_eq]

theorem output : algebraic_Kernel3Ideal_Reference3Ideal := by
  intro m g m' g' _ hargs
  refine ⟨fun c => Cert.Kernel3Ideal.Out.rowsByRows (Cert.Kernel3Ideal.Out.heads m c) (Cert.Kernel3Ideal.Out.weights m c),
    (θ_run _ _ _).mono (fun r h c => ⟨(h c).1.trans (Cert.Kernel3Ideal.Out.kernel_value m c), (h c).2⟩) (Cert.Kernel3Ideal.Value.run_blocks m g),
    (θ_run _ _ _).mono (fun r h c => ⟨(h c).1.trans ?_, (h c).2⟩) (Cert.Reference3Ideal.Value.run m' g')⟩
  obtain ⟨e0, e1⟩ := hargs c
  rw [e0, e1]
  exact Cert.Kernel3Ideal.Out.reference_value _ _

end Cert.Proof
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.KernelValue
public import proofs.«01_k».proof.Proof.RefValue
public import proofs.«01_k».proof.Proof.Finite
public import proofs.«01_k».proof.Proof.Calls
public import Idealize.ShloMosaic.Adequacy
public import Idealize.ShloMosaic.Init

@[expose] public section

noncomputable section

namespace Cert.Proof

open Idealize.ShloMosaic Idealize.SL.Sem Cert.Kernel

/-- The kernel in exact numbers and the reference return the same array. -/
theorem algebraic : algebraic_KernelIdeal_ReferenceIdeal_pre_finite := by
  intro m g m' g' hpre hargs
  have hX (c : Dev Cert.KernelIdeal.nD) (y) : ∃ r : ℝ, Cert.KernelIdeal.Pay.packed m c y = r := Cert.Pre_finite.Read.real_of_pre _ (hpre c) y
  have hX' (c : Dev Cert.ReferenceIdeal.nD) (y) : ∃ r : ℝ, Cert.ReferenceIdeal.Read.arg m' c y = r := by
    unfold Cert.ReferenceIdeal.Read.arg
    rw [hargs c]
    exact hX c y
  refine ⟨fun c => Cert.KernelIdeal.Value.G3 m c, Cert.KernelIdeal.Value.run m g, ?_⟩
  refine (θ_run _ _ _).mono (fun r h c => ⟨((h c).1.trans ?_), (h c).2⟩) (Cert.ReferenceIdeal.Read.run_value m' g' hX')
  refine (congrArg Cert.Heavy.attn (hargs c)).trans ?_
  exact (Cert.KernelIdeal.Pay.G3_eq m c (hX c)).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts, Cert.Pre_positions.Read.shapes,
  fun m g _ => Cert.Kernel.Gen.frame m g, fun m g _ => Cert.KernelIdeal.Gen.frame m g, fun m g _ => Cert.KernelIdeal.Gen.frame m g,
  fun m g _ => Cert.ReferenceIdeal.Read.unchanged m g, fun m g _ => Cert.ReferenceIdeal.Read.unchanged m g,
  fun m g _ => Cert.Kernel2.Gen.frame m g, fun m g _ => Cert.Kernel2Ideal.Gen.frame m g, fun m g _ => Cert.Kernel2Ideal.Gen.frame m g,
  fun m g _ => Cert.Reference2Ideal.Read.unchanged m g, fun m g _ => Cert.Reference2Ideal.Read.unchanged m g,
  fun m g _ => Cert.Kernel3.Gen.frame m g, fun m g _ => Cert.Kernel3Ideal.Gen.frame m g, fun m g _ => Cert.Reference3Ideal.Read.unchanged m g,
  IdealRules.named_const.statement _ _ _ _ _ rfl, algebraic, trivial, projections, trivial, output⟩

end Cert.Proof

end
